-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Head_HeadIdeal : Prop :=
  True

def algebraic_HeadIdeal_HeadReferenceIdeal [hHeadIdeal : Cert.HeadIdeal.Facts] [hHeadReferenceIdeal : Cert.HeadReferenceIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)
      ∧ m' ((c.tc : Thread Cert.HeadReferenceIdeal.nD Cert.HeadReferenceIdeal.τ).loc Cert.HeadReferenceIdeal.main_arg3) = m ((c.tc : Thread Cert.HeadIdeal.nD Cert.HeadIdeal.τ).loc Cert.HeadIdeal.main_arg3)
      ∧ m' ((c.tc : Thread Cert.HeadReferenceIdeal.nD Cert.HeadReferenceIdeal.τ).loc Cert.HeadReferenceIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v10)) (v1 : (c : Dev Cert.HeadIdeal.nD) → Buf (Elt Ideal) ((c.tc : Thread Cert.HeadIdeal.nD Cert.HeadIdeal.τ).loc Cert.HeadIdeal.main_v13)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v10) = v0 c
          ∧ r.2.mem ((c.tc : Thread Cert.HeadIdeal.nD Cert.HeadIdeal.τ).loc Cert.HeadIdeal.main_v13) = v1 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v65) = v0 c
          ∧ r.2.mem ((c.tc : Thread Cert.HeadReferenceIdeal.nD Cert.HeadReferenceIdeal.τ).loc Cert.HeadReferenceIdeal.main_v80) = v1 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v89)) (v3 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v89) = v2 c
          ∧ r.2.mem ((c.tc : Thread Cert.KernelIdeal.nD Cert.KernelIdeal.τ).loc Cert.KernelIdeal.main_v92) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_v132) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hHead : Cert.Head.Facts) (hHeadIdeal : Cert.HeadIdeal.Facts) (hHeadReferenceIdeal : Cert.HeadReferenceIdeal.Facts) (hKernelIdeal : Cert.KernelIdeal.Facts) (hReferenceIdeal : Cert.ReferenceIdeal.Facts),
    quiescent_Head (hHead := hHead)
    ∧ quiescent_HeadIdeal (hHeadIdeal := hHeadIdeal)
    ∧ quiescent_HeadReferenceIdeal (hHeadReferenceIdeal := hHeadReferenceIdeal)
    ∧ quiescent_KernelIdeal (hKernelIdeal := hKernelIdeal)
    ∧ quiescent_ReferenceIdeal (hReferenceIdeal := hReferenceIdeal)
    ∧ preserves_Head_HeadIdeal
    ∧ algebraic_HeadIdeal_HeadReferenceIdeal (hHeadIdeal := hHeadIdeal) (hHeadReferenceIdeal := hHeadReferenceIdeal)
    ∧ algebraic_KernelIdeal_ReferenceIdeal (hKernelIdeal := hKernelIdeal) (hReferenceIdeal := hReferenceIdeal)
-- ==== Head.lean ====
abbrev S4x128x64x64 : Shape := ⟨4, ![4, 128, 64, 64]⟩
abbrev S256x128x3x3 : Shape := ⟨4, ![256, 128, 3, 3]⟩
abbrev S256 : Shape := ⟨1, ![256]⟩
abbrev S65x256x1x1 : Shape := ⟨4, ![65, 256, 1, 1]⟩
abbrev S65 : Shape := ⟨1, ![65]⟩
abbrev S4x64x64x128 : Shape := ⟨4, ![4, 64, 64, 128]⟩
abbrev S_ : Shape := ⟨0, ![]⟩
abbrev S4x72x72x128 : Shape := ⟨4, ![4, 72, 72, 128]⟩
abbrev S3x3x128x256 : Shape := ⟨4, ![3, 3, 128, 256]⟩
abbrev S9x128x256 : Shape := ⟨3, ![9, 128, 256]⟩
abbrev S65x256 : Shape := ⟨2, ![65, 256]⟩
abbrev S256x65 : Shape := ⟨2, ![256, 65]⟩
abbrev S1x256 : Shape := ⟨2, ![1, 256]⟩
abbrev S1x65 : Shape := ⟨2, ![1, 65]⟩
abbrev S4x4096x65 : Shape := ⟨3, ![4, 4096, 65]⟩
abbrev S4x4096x64 : Shape := ⟨3, ![4, 4096, 64]⟩
abbrev S1x72x72x128 : Shape := ⟨4, ![1, 72, 72, 128]⟩
abbrev S1x4096x65 : Shape := ⟨3, ![1, 4096, 65]⟩
abbrev S1x4096x64 : Shape := ⟨3, ![1, 4096, 64]⟩
abbrev S4096x256 : Shape := ⟨2, ![4096, 256]⟩
abbrev S1x64x64x128 : Shape := ⟨4, ![1, 64, 64, 128]⟩
abbrev S64x64x128 : Shape := ⟨3, ![64, 64, 128]⟩
abbrev S4096x128 : Shape := ⟨2, ![4096, 128]⟩
abbrev S1x128x256 : Shape := ⟨3, ![1, 128, 256]⟩
abbrev S128x256 : Shape := ⟨2, ![128, 256]⟩
abbrev S4096x65 : Shape := ⟨2, ![4096, 65]⟩
abbrev S4096 : Shape := ⟨1, ![4096]⟩
abbrev S4096x1 : Shape := ⟨2, ![4096, 1]⟩
abbrev S4096x64 : Shape := ⟨2, ![4096, 64]⟩
abbrev S4x64x64x65 : Shape := ⟨4, ![4, 64, 64, 65]⟩
abbrev S4x65x64x64 : Shape := ⟨4, ![4, 65, 64, 64]⟩
abbrev S4x64x64x8x8 : Shape := ⟨5, ![4, 64, 64, 8, 8]⟩
abbrev S4x64x8x64x8 : Shape := ⟨5, ![4, 64, 8, 64, 8]⟩
abbrev S4x512x512 : Shape := ⟨3, ![4, 512, 512]⟩

abbrev nBuf : Space → Nat
  | .hbm => 22
  | .vmem => 10
  | .smem => 0
  | _ => 0

abbrev bufTy : (tb : Table) → Fin (tcTables nBuf tb) → BufTy
  | .hbm, ⟨0, _⟩ => ⟨S4x128x64x64, .f32⟩
  | .hbm, ⟨1, _⟩ => ⟨S256x128x3x3, .f32⟩
  | .hbm, ⟨2, _⟩ => ⟨S256, .f32⟩
  | .hbm, ⟨3, _⟩ => ⟨S65x256x1x1, .f32⟩
  | .hbm, ⟨4, _⟩ => ⟨S65, .f32⟩
  | .hbm, ⟨5, _⟩ => ⟨S4x64x64x128, .f32⟩
  | .hbm, ⟨6, _⟩ => ⟨S_, .i32⟩
  | .hbm, ⟨7, _⟩ => ⟨S_, .f32⟩
  | .hbm, ⟨8, _⟩ => ⟨S4x72x72x128, .f32⟩
  | .hbm, ⟨9, _⟩ => ⟨S3x3x128x256, .f32⟩
  | .hbm, ⟨10, _⟩ => ⟨S9x128x256, .f32⟩
  | .hbm, ⟨11, _⟩ => ⟨S65x256, .f32⟩
  | .hbm, ⟨12, _⟩ => ⟨S256x65, .f32⟩
  | .hbm, ⟨13, _⟩ => ⟨S1x256, .f32⟩
  | .hbm, ⟨14, _⟩ => ⟨S1x65, .f32⟩
  | .hbm, ⟨15, _⟩ => ⟨S4x4096x65, .f32⟩
  | .hbm, ⟨16, _⟩ => ⟨S4x4096x64, .f32⟩
  | .hbm, ⟨17, _⟩ => ⟨S4x64x64x65, .f32⟩
  | .hbm, ⟨18, _⟩ => ⟨S4x65x64x64, .f32⟩
  | .hbm, ⟨19, _⟩ => ⟨S4x64x64x8x8, .f32⟩
  | .hbm, ⟨20, _⟩ => ⟨S4x64x8x64x8, .f32⟩
  | .hbm, ⟨21, _⟩ => ⟨S4x512x512, .f32⟩
  | .local _ .vmem, ⟨0, _⟩ => ⟨S1x72x72x128, .f32⟩
  | .local _ .vmem, ⟨1, _⟩ => ⟨S1x72x72x128, .f32⟩
  | .local _ .vmem, ⟨2, _⟩ => ⟨S9x128x256, .f32⟩
  | .local _ .vmem, ⟨3, _⟩ => ⟨S1x256, .f32⟩
  | .local _ .vmem, ⟨4, _⟩ => ⟨S256x65, .f32⟩
  | .local _ .vmem, ⟨5, _⟩ => ⟨S1x65, .f32⟩
  | .local _ .vmem, ⟨6, _⟩ => ⟨S1x4096x65, .f32⟩
  | .local _ .vmem, ⟨7, _⟩ => ⟨S1x4096x65, .f32⟩
  | .local _ .vmem, ⟨8, _⟩ => ⟨S1x4096x64, .f32⟩
  | .local _ .vmem, ⟨9, _⟩ => ⟨S1x4096x64, .f32⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x72x72x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x65 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x65 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x65 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== HeadReferenceIdeal.lean ====
abbrev S4x128x64x64 : Shape := ⟨4, ![4, 128, 64, 64]⟩
abbrev S256x128x3x3 : Shape := ⟨4, ![256, 128, 3, 3]⟩
abbrev S256 : Shape := ⟨1, ![256]⟩
abbrev S65x256x1x1 : Shape := ⟨4, ![65, 256, 1, 1]⟩
abbrev S65 : Shape := ⟨1, ![65]⟩
abbrev S_ : Shape := ⟨0, ![]⟩
abbrev S4x128x66x66 : Shape := ⟨4, ![4, 128, 66, 66]⟩
abbrev S4x256x64x64 : Shape := ⟨4, ![4, 256, 64, 64]⟩
abbrev S256x128x1x1 : Shape := ⟨4, ![256, 128, 1, 1]⟩
abbrev S256x128 : Shape := ⟨2, ![256, 128]⟩
abbrev S256x4x64x64 : Shape := ⟨4, ![256, 4, 64, 64]⟩
abbrev S1x256x1x1 : Shape := ⟨4, ![1, 256, 1, 1]⟩
abbrev S65x256 : Shape := ⟨2, ![65, 256]⟩
abbrev S65x4x64x64 : Shape := ⟨4, ![65, 4, 64, 64]⟩
abbrev S4x65x64x64 : Shape := ⟨4, ![4, 65, 64, 64]⟩
abbrev S1x65x1x1 : Shape := ⟨4, ![1, 65, 1, 1]⟩
abbrev S4x64x64 : Shape := ⟨3, ![4, 64, 64]⟩
abbrev S4x1x64x64 : Shape := ⟨4, ![4, 1, 64, 64]⟩
abbrev S4x64x64x64 : Shape := ⟨4, ![4, 64, 64, 64]⟩
abbrev S4x8x8x64x64 : Shape := ⟨5, ![4, 8, 8, 64, 64]⟩
abbrev S4x64x8x64x8 : Shape := ⟨5, ![4, 64, 8, 64, 8]⟩
abbrev S4x512x512 : Shape := ⟨3, ![4, 512, 512]⟩

abbrev nBuf : Space → Nat
  | .hbm => 94
  | .vmem => 0
  | .smem => 0
  | _ => 0

abbrev bufTy : (tb : Table) → Fin (tcTables nBuf tb) → BufTy
  | .hbm, ⟨0, _⟩ => ⟨S4x128x64x64, .f32⟩
  | .hbm, ⟨1, _⟩ => ⟨S256x128x3x3, .f32⟩
  | .hbm, ⟨2, _⟩ => ⟨S256, .f32⟩
  | .hbm, ⟨3, _⟩ => ⟨S65x256x1x1, .f32⟩
  | .hbm, ⟨4, _⟩ => ⟨S65, .f32⟩
  | .hbm, ⟨5, _⟩ => ⟨S_, .i32⟩
  | .hbm, ⟨6, _⟩ => ⟨S_, .f32⟩
  | .hbm, ⟨7, _⟩ => ⟨S4x128x66x66, .f32⟩
  | .hbm, ⟨8, _⟩ => ⟨S_, .f32⟩
  | .hbm, ⟨9, _⟩ => ⟨S4x256x64x64, .f32⟩
  | .hbm, ⟨10, _⟩ => ⟨S4x128x64x64, .f32⟩
  | .hbm, ⟨11, _⟩ => ⟨S256x128x1x1, .f32⟩
  | .hbm, ⟨12, _⟩ => ⟨S256x128, .f32⟩
  | .hbm, ⟨13, _⟩ => ⟨S256x4x64x64, .f32⟩
  | .hbm, ⟨14, _⟩ => ⟨S4x256x64x64, .f32⟩
  | .hbm, ⟨15, _⟩ => ⟨S4x256x64x64, .f32⟩
  | .hbm, ⟨16, _⟩ => ⟨S4x128x64x64, .f32⟩
  | .hbm, ⟨17, _⟩ => ⟨S256x128x1x1, .f32⟩
  | .hbm, ⟨18, _⟩ => ⟨S256x128, .f32⟩
  | .hbm, ⟨19, _⟩ => ⟨S256x4x64x64, .f32⟩
  | .hbm, ⟨20, _⟩ => ⟨S4x256x64x64, .f32⟩
  | .hbm, ⟨21, _⟩ => ⟨S4x256x64x64, .f32⟩
  | .hbm, ⟨22, _⟩ => ⟨S4x128x64x64, .f32⟩
  | .hbm, ⟨23, _⟩ => ⟨S256x128x1x1, .f32⟩
  | .hbm, ⟨24, _⟩ => ⟨S256x128, .f32⟩
  | .hbm, ⟨25, _⟩ => ⟨S256x4x64x64, .f32⟩
  | .hbm, ⟨26, _⟩ => ⟨S4x256x64x64, .f32⟩
  | .hbm, ⟨27, _⟩ => ⟨S4x256x64x64, .f32⟩
  | .hbm, ⟨28, _⟩ => ⟨S4x128x64x64, .f32⟩
  | .hbm, ⟨29, _⟩ => ⟨S256x128x1x1, .f32⟩
  | .hbm, ⟨30, _⟩ => ⟨S256x128, .f32⟩
  | .hbm, ⟨31, _⟩ => ⟨S256x4x64x64, .f32⟩
  | .hbm, ⟨32, _⟩ => ⟨S4x256x64x64, .f32⟩
  | .hbm, ⟨33, _⟩ => ⟨S4x256x64x64, .f32⟩
  | .hbm, ⟨34, _⟩ => ⟨S4x128x64x64, .f32⟩
  | .hbm, ⟨35, _⟩ => ⟨S256x128x1x1, .f32⟩
  | .hbm, ⟨36, _⟩ => ⟨S256x128, .f32⟩
  | .hbm, ⟨37, _⟩ => ⟨S256x4x64x64, .f32⟩
  | .hbm, ⟨38, _⟩ => ⟨S4x256x64x64, .f32⟩
  | .hbm, ⟨39, _⟩ => ⟨S4x256x64x64, .f32⟩
  | .hbm, ⟨40, _⟩ => ⟨S4x128x64x64, .f32⟩
  | .hbm, ⟨41, _⟩ => ⟨S256x128x1x1, .f32⟩
  | .hbm, ⟨42, _⟩ => ⟨S256x128, .f32⟩
  | .hbm, ⟨43, _⟩ => ⟨S256x4x64x64, .f32⟩
  | .hbm, ⟨44, _⟩ => ⟨S4x256x64x64, .f32⟩
  | .hbm, ⟨45, _⟩ => ⟨S4x256x64x64, .f32⟩
  | .hbm, ⟨46, _⟩ => ⟨S4x128x64x64, .f32⟩
  | .hbm, ⟨47, _⟩ => ⟨S256x128x1x1, .f32⟩
  | .hbm, ⟨48, _⟩ => ⟨S256x128, .f32⟩
  | .hbm, ⟨49, _⟩ => ⟨S256x4x64x64, .f32⟩
  | .hbm, ⟨50, _⟩ => ⟨S4x256x64x64, .f32⟩
  | .hbm, ⟨51, _⟩ => ⟨S4x256x64x64, .f32⟩
  | .hbm, ⟨52, _⟩ => ⟨S4x128x64x64, .f32⟩
  | .hbm, ⟨53, _⟩ => ⟨S256x128x1x1, .f32⟩
  | .hbm, ⟨54, _⟩ => ⟨S256x128, .f32⟩
  | .hbm, ⟨55, _⟩ => ⟨S256x4x64x64, .f32⟩
  | .hbm, ⟨56, _⟩ => ⟨S4x256x64x64, .f32⟩
  | .hbm, ⟨57, _⟩ => ⟨S4x256x64x64, .f32⟩
  | .hbm, ⟨58, _⟩ => ⟨S4x128x64x64, .f32⟩
  | .hbm, ⟨59, _⟩ => ⟨S256x128x1x1, .f32⟩
  | .hbm, ⟨60, _⟩ => ⟨S256x128, .f32⟩
  | .hbm, ⟨61, _⟩ => ⟨S256x4x64x64, .f32⟩
  | .hbm, ⟨62, _⟩ => ⟨S4x256x64x64, .f32⟩
  | .hbm, ⟨63, _⟩ => ⟨S4x256x64x64, .f32⟩
  | .hbm, ⟨64, _⟩ => ⟨S1x256x1x1, .f32⟩
  | .hbm, ⟨65, _⟩ => ⟨S4x256x64x64, .f32⟩
  | .hbm, ⟨66, _⟩ => ⟨S4x256x64x64, .f32⟩
  | .hbm, ⟨67, _⟩ => ⟨S_, .f32⟩
  | .hbm, ⟨68, _⟩ => ⟨S4x256x64x64, .f32⟩
  | .hbm, ⟨69, _⟩ => ⟨S4x256x64x64, .f32⟩
  | .hbm, ⟨70, _⟩ => ⟨S65x256, .f32⟩
  | .hbm, ⟨71, _⟩ => ⟨S65x4x64x64, .f32⟩
  | .hbm, ⟨72, _⟩ => ⟨S4x65x64x64, .f32⟩
  | .hbm, ⟨73, _⟩ => ⟨S1x65x1x1, .f32⟩
  | .hbm, ⟨74, _⟩ => ⟨S4x65x64x64, .f32⟩
  | .hbm, ⟨75, _⟩ => ⟨S4x65x64x64, .f32⟩
  | .hbm, ⟨76, _⟩ => ⟨S_, .f32⟩
  | .hbm, ⟨77, _⟩ => ⟨S4x64x64, .f32⟩
  | .hbm, ⟨78, _⟩ => ⟨S_, .f32⟩
  | .hbm, ⟨79, _⟩ => ⟨S4x64x64, .f32⟩
  | .hbm, ⟨80, _⟩ => ⟨S4x64x64, .f32⟩
  | .hbm, ⟨81, _⟩ => ⟨S4x1x64x64, .f32⟩
  | .hbm, ⟨82, _⟩ => ⟨S4x65x64x64, .f32⟩
  | .hbm, ⟨83, _⟩ => ⟨S4x65x64x64, .f32⟩
  | .hbm, ⟨84, _⟩ => ⟨S4x65x64x64, .f32⟩
  | .hbm, ⟨85, _⟩ => ⟨S_, .f32⟩
  | .hbm, ⟨86, _⟩ => ⟨S4x64x64, .f32⟩
  | .hbm, ⟨87, _⟩ => ⟨S4x1x64x64, .f32⟩
  | .hbm, ⟨88, _⟩ => ⟨S4x65x64x64, .f32⟩
  | .hbm, ⟨89, _⟩ => ⟨S4x65x64x64, .f32⟩
  | .hbm, ⟨90, _⟩ => ⟨S4x64x64x64, .f32⟩
  | .hbm, ⟨91, _⟩ => ⟨S4x8x8x64x64, .f32⟩
  | .hbm, ⟨92, _⟩ => ⟨S4x64x8x64x8, .f32⟩
  | .hbm, ⟨93, _⟩ => ⟨S4x512x512, .f32⟩
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_call1_cst : Ref sig .tc := ⟨.hbm, 67, rfl⟩
abbrev main_call1_v0 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_0 : Ref sig .tc := ⟨.hbm, 76, rfl⟩
abbrev main_v66 : Ref sig .tc := ⟨.hbm, 77, rfl⟩
abbrev main_cst_1 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_2 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== KernelIdeal.lean ====
abbrev S4x128x64x64 : Shape := ⟨4, ![4, 128, 64, 64]⟩
abbrev S256x128x3x3 : Shape := ⟨4, ![256, 128, 3, 3]⟩
abbrev S256 : Shape := ⟨1, ![256]⟩
abbrev S65x256x1x1 : Shape := ⟨4, ![65, 256, 1, 1]⟩
abbrev S65 : Shape := ⟨1, ![65]⟩
abbrev S4x64x64x128 : Shape := ⟨4, ![4, 64, 64, 128]⟩
abbrev S_ : Shape := ⟨0, ![]⟩
abbrev S4x72x72x128 : Shape := ⟨4, ![4, 72, 72, 128]⟩
abbrev S3x3x128x256 : Shape := ⟨4, ![3, 3, 128, 256]⟩
abbrev S9x128x256 : Shape := ⟨3, ![9, 128, 256]⟩
abbrev S65x256 : Shape := ⟨2, ![65, 256]⟩
abbrev S256x65 : Shape := ⟨2, ![256, 65]⟩
abbrev S1x256 : Shape := ⟨2, ![1, 256]⟩
abbrev S1x65 : Shape := ⟨2, ![1, 65]⟩
abbrev S4x4096x65 : Shape := ⟨3, ![4, 4096, 65]⟩
abbrev S4x4096x64 : Shape := ⟨3, ![4, 4096, 64]⟩
abbrev S1x72x72x128 : Shape := ⟨4, ![1, 72, 72, 128]⟩
abbrev S1x4096x65 : Shape := ⟨3, ![1, 4096, 65]⟩
abbrev S1x4096x64 : Shape := ⟨3, ![1, 4096, 64]⟩
abbrev S4096x256 : Shape := ⟨2, ![4096, 256]⟩
abbrev S1x64x64x128 : Shape := ⟨4, ![1, 64, 64, 128]⟩
abbrev S64x64x128 : Shape := ⟨3, ![64, 64, 128]⟩
abbrev S4096x128 : Shape := ⟨2, ![4096, 128]⟩
abbrev S1x128x256 : Shape := ⟨3, ![1, 128, 256]⟩
abbrev S128x256 : Shape := ⟨2, ![128, 256]⟩
abbrev S4096x65 : Shape := ⟨2, ![4096, 65]⟩
abbrev S4096 : Shape := ⟨1, ![4096]⟩
abbrev S4096x1 : Shape := ⟨2, ![4096, 1]⟩
abbrev S4096x64 : Shape := ⟨2, ![4096, 64]⟩
abbrev S4x64x64x65 : Shape := ⟨4, ![4, 64, 64, 65]⟩
abbrev S4x65x64x64 : Shape := ⟨4, ![4, 65, 64, 64]⟩
abbrev S4x64x64x8x8 : Shape := ⟨5, ![4, 64, 64, 8, 8]⟩
abbrev S4x64x8x64x8 : Shape := ⟨5, ![4, 64, 8, 64, 8]⟩
abbrev S4x512x512 : Shape := ⟨3, ![4, 512, 512]⟩
abbrev S4x262144 : Shape := ⟨2, ![4, 262144]⟩
abbrev S4x1024 : Shape := ⟨2, ![4, 1024]⟩
abbrev S4x1024x1 : Shape := ⟨3, ![4, 1024, 1]⟩
abbrev S4x1x1024 : Shape := ⟨3, ![4, 1, 1024]⟩
abbrev S4x1024x1024 : Shape := ⟨3, ![4, 1024, 1024]⟩
abbrev S4 : Shape := ⟨1, ![4]⟩
abbrev S4x1 : Shape := ⟨2, ![4, 1]⟩
abbrev S1048576 : Shape := ⟨1, ![1048576]⟩

abbrev nBuf : Space → Nat
  | .hbm => 186
  | .vmem => 10
  | .smem => 0
  | _ => 0

abbrev hbmTy0_0 (i : Nat) : BufTy := match i % 128 with
  | 0 => ⟨S4x128x64x64, .f32⟩
  | 1 => ⟨S256x128x3x3, .f32⟩
  | 2 => ⟨S256, .f32⟩
  | 3 => ⟨S65x256x1x1, .f32⟩
  | 4 => ⟨S65, .f32⟩
  | 5 => ⟨S4x64x64x128, .f32⟩
  | 6 => ⟨S_, .i32⟩
  | 7 => ⟨S_, .f32⟩
  | 8 => ⟨S4x72x72x128, .f32⟩
  | 9 => ⟨S3x3x128x256, .f32⟩
  | 10 => ⟨S9x128x256, .f32⟩
  | 11 => ⟨S65x256, .f32⟩
  | 12 => ⟨S256x65, .f32⟩
  | 13 => ⟨S1x256, .f32⟩
  | 14 => ⟨S1x65, .f32⟩
  | 15 => ⟨S4x4096x65, .f32⟩
  | 16 => ⟨S4x4096x64, .f32⟩
  | 17 => ⟨S4x64x64x65, .f32⟩
  | 18 => ⟨S4x65x64x64, .f32⟩
  | 19 => ⟨S4x64x64x8x8, .f32⟩
  | 20 => ⟨S4x64x8x64x8, .f32⟩
  | 21 => ⟨S4x512x512, .f32⟩
  | 22 => ⟨S4x262144, .f32⟩
  | 23 => ⟨S4x1024, .f32⟩
  | 24 => ⟨S4x1024, .i32⟩
  | 25 => ⟨S_, .i32⟩
  | 26 => ⟨S_, .i32⟩
  | 27 => ⟨S4x1024, .i32⟩
  | 28 => ⟨S4x1024, .i32⟩
  | 29 => ⟨S4x1024, .i32⟩
  | 30 => ⟨S_, .i32⟩
  | 31 => ⟨S4x1024, .i32⟩
  | 32 => ⟨S4x1024, .i1⟩
  | 33 => ⟨S4x1024, .i32⟩
  | 34 => ⟨S4x1024, .i32⟩
  | 35 => ⟨S_, .i32⟩
  | 36 => ⟨S4x1024, .i32⟩
  | 37 => ⟨S4x1024, .i1⟩
  | 38 => ⟨S4x1024, .i1⟩
  | 39 => ⟨S_, .i32⟩
  | 40 => ⟨S4x1024, .i32⟩
  | 41 => ⟨S4x1024, .i32⟩
  | 42 => ⟨S4x1024, .i32⟩
  | 43 => ⟨S4x1024, .f32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S4x1024, .i32⟩
  | 51 => ⟨S4x1024, .i32⟩
  | 52 => ⟨S_, .i32⟩
  | 53 => ⟨S4x1024, .i32⟩
  | 54 => ⟨S4x1024, .i1⟩
  | 55 => ⟨S_, .i32⟩
  | 56 => ⟨S4x1024, .i32⟩
  | 57 => ⟨S4x1024, .i1⟩
  | 58 => ⟨S_, .i32⟩
  | 59 => ⟨S_, .i1⟩
  | 60 => ⟨S4x1024, .i1⟩
  | 61 => ⟨S4x1024, .i1⟩
  | 62 => ⟨S4x1024, .i1⟩
  | 63 => ⟨S4x1024, .i32⟩
  | 64 => ⟨S4x1024, .i32⟩
  | 65 => ⟨S4x1024, .i32⟩
  | 66 => ⟨S4x1024, .f32⟩
  | 67 => ⟨S4x1024x1, .f32⟩
  | 68 => ⟨S4x1x1024, .f32⟩
  | 69 => ⟨S4x1024x1024, .f32⟩
  | 70 => ⟨S4x1024x1024, .f32⟩
  | 71 => ⟨S4x1024x1024, .f32⟩
  | 72 => ⟨S4x1024x1024, .f32⟩
  | 73 => ⟨S4x1024x1, .f32⟩
  | 74 => ⟨S4x1x1024, .f32⟩
  | 75 => ⟨S4x1024x1024, .f32⟩
  | 76 => ⟨S4x1024x1024, .f32⟩
  | 77 => ⟨S4x1024x1024, .f32⟩
  | 78 => ⟨S4x1024x1024, .f32⟩
  | 79 => ⟨S_, .f32⟩
  | 80 => ⟨S4x1024x1024, .f32⟩
  | 81 => ⟨S4x1024x1024, .f32⟩
  | 82 => ⟨S_, .f32⟩
  | 83 => ⟨S4x1024x1024, .f32⟩
  | 84 => ⟨S4x1024x1024, .f32⟩
  | 85 => ⟨S_, .f32⟩
  | 86 => ⟨S4x1024x1024, .f32⟩
  | 87 => ⟨S4x1024x1024, .f32⟩
  | 88 => ⟨S_, .f32⟩
  | 89 => ⟨S4x1024x1024, .f32⟩
  | 90 => ⟨S4x1024x1024, .f32⟩
  | 91 => ⟨S4x1024x1024, .f32⟩
  | 92 => ⟨S_, .f32⟩
  | 93 => ⟨S4x1024x1024, .f32⟩
  | 94 => ⟨S4x1024x1024, .i1⟩
  | 95 => ⟨S4x1024x1, .f32⟩
  | 96 => ⟨S4x1x1024, .f32⟩
  | 97 => ⟨S4x1024x1024, .f32⟩
  | 98 => ⟨S4x1024x1024, .f32⟩
  | 99 => ⟨S4x1024x1024, .i1⟩
  | 100 => ⟨S4x1024x1024, .f32⟩
  | 101 => ⟨S4x1024x1024, .f32⟩
  | 102 => ⟨S4x1024x1024, .i1⟩
  | 103 => ⟨S4x1024x1, .i32⟩
  | 104 => ⟨S4x1x1024, .i32⟩
  | 105 => ⟨S4x1024x1024, .i32⟩
  | 106 => ⟨S4x1024x1024, .i32⟩
  | 107 => ⟨S4x1024x1024, .i1⟩
  | 108 => ⟨S4x1024x1024, .i1⟩
  | 109 => ⟨S4x1024x1024, .i1⟩
  | 110 => ⟨S4x1024x1024, .i1⟩
  | 111 => ⟨S4x1024x1024, .f32⟩
  | 112 => ⟨S4x1024x1024, .f32⟩
  | 113 => ⟨S_, .f32⟩
  | 114 => ⟨S4x1024, .f32⟩
  | 115 => ⟨S4x1024, .i1⟩
  | 116 => ⟨S4x1024, .f32⟩
  | 117 => ⟨S_, .f32⟩
  | 118 => ⟨S4x1024, .f32⟩
  | 119 => ⟨S_, .f32⟩
  | 120 => ⟨S4x1024x1024, .f32⟩
  | 121 => ⟨S4x1024, .f32⟩
  | 122 => ⟨S4x1024, .f32⟩
  | 123 => ⟨S_, .f32⟩
  | 124 => ⟨S_, .f32⟩
  | 125 => ⟨S_, .i1⟩
  | 126 => ⟨S4x1024, .f32⟩
  | 127 => ⟨S4x1024, .f32⟩
  | _ => ⟨S4x128x64x64, .f32⟩

abbrev hbmTy0_1 (i : Nat) : BufTy := match i % 128 with
  | 0 => ⟨S_, .f32⟩
  | 1 => ⟨S4x1024, .f32⟩
  | 2 => ⟨S4x1024, .i1⟩
  | 3 => ⟨S4x1024, .f32⟩
  | 4 => ⟨S4x1024, .f32⟩
  | 5 => ⟨S_, .f32⟩
  | 6 => ⟨S4x1024, .f32⟩
  | 7 => ⟨S4x1024, .i1⟩
  | 8 => ⟨S4x1024, .f32⟩
  | 9 => ⟨S4x1024, .f32⟩
  | 10 => ⟨S_, .f32⟩
  | 11 => ⟨S4x1024, .f32⟩
  | 12 => ⟨S4x1024, .i1⟩
  | 13 => ⟨S4x1024, .f32⟩
  | 14 => ⟨S4x1024, .f32⟩
  | 15 => ⟨S4x1024, .f32⟩
  | 16 => ⟨S4x1024, .f32⟩
  | 17 => ⟨S4x1024, .f32⟩
  | 18 => ⟨S_, .f32⟩
  | 19 => ⟨S_, .f32⟩
  | 20 => ⟨S4x1024, .f32⟩
  | 21 => ⟨S_, .f32⟩
  | 22 => ⟨S4x1024, .f32⟩
  | 23 => ⟨S4x1024, .i1⟩
  | 24 => ⟨S4x1024, .f32⟩
  | 25 => ⟨S4x1024, .f32⟩
  | 26 => ⟨S_, .f32⟩
  | 27 => ⟨S4x1024, .f32⟩
  | 28 => ⟨S4x1024, .i1⟩
  | 29 => ⟨S_, .f32⟩
  | 30 => ⟨S_, .f32⟩
  | 31 => ⟨S4x1024, .f32⟩
  | 32 => ⟨S4x1024, .f32⟩
  | 33 => ⟨S4, .i32⟩
  | 34 => ⟨S4x1, .i32⟩
  | 35 => ⟨S_, .i32⟩
  | 36 => ⟨S4x1, .i32⟩
  | 37 => ⟨S4x1, .i32⟩
  | 38 => ⟨S4x1024, .i32⟩
  | 39 => ⟨S4x1024, .i32⟩
  | 40 => ⟨S4096, .i32⟩
  | 41 => ⟨S_, .f32⟩
  | 42 => ⟨S1048576, .f32⟩
  | 43 => ⟨S4096, .f32⟩
  | 44 => ⟨S_, .i32⟩
  | 45 => ⟨S4096, .i32⟩
  | 46 => ⟨S4096, .i1⟩
  | 47 => ⟨S_, .i32⟩
  | 48 => ⟨S4096, .i32⟩
  | 49 => ⟨S4096, .i32⟩
  | 50 => ⟨S4096, .i32⟩
  | 51 => ⟨S4096x1, .i32⟩
  | 52 => ⟨S1048576, .f32⟩
  | 53 => ⟨S4x512x512, .f32⟩
  | 54 => ⟨S_, .f32⟩
  | 55 => ⟨S4x512x512, .f32⟩
  | 56 => ⟨S4x512x512, .i1⟩
  | 57 => ⟨S4x512x512, .i32⟩
  | _ => ⟨S4x128x64x64, .f32⟩

abbrev hbmTy (i : Nat) : BufTy := match i / 128 with
  | 0 => hbmTy0_0 i
  | 1 => hbmTy0_1 i
  | _ => ⟨S4x128x64x64, .f32⟩

abbrev bufTy : (tb : Table) → Fin (tcTables nBuf tb) → BufTy
  | .hbm, ⟨i, _⟩ => hbmTy i
  | .local _ .vmem, ⟨0, _⟩ => ⟨S1x72x72x128, .f32⟩
  | .local _ .vmem, ⟨1, _⟩ => ⟨S1x72x72x128, .f32⟩
  | .local _ .vmem, ⟨2, _⟩ => ⟨S9x128x256, .f32⟩
  | .local _ .vmem, ⟨3, _⟩ => ⟨S1x256, .f32⟩
  | .local _ .vmem, ⟨4, _⟩ => ⟨S256x65, .f32⟩
  | .local _ .vmem, ⟨5, _⟩ => ⟨S1x65, .f32⟩
  | .local _ .vmem, ⟨6, _⟩ => ⟨S1x4096x65, .f32⟩
  | .local _ .vmem, ⟨7, _⟩ => ⟨S1x4096x65, .f32⟩
  | .local _ .vmem, ⟨8, _⟩ => ⟨S1x4096x64, .f32⟩
  | .local _ .vmem, ⟨9, _⟩ => ⟨S1x4096x64, .f32⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_values : Ref sig .tc := ⟨.hbm, 23, rfl⟩
abbrev main_indices : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v15 : Ref sig .tc := ⟨.hbm, 42, rfl⟩
abbrev main_v16 : Ref sig .tc := ⟨.hbm, 43, rfl⟩
abbrev main_c_1 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_1 : Ref sig .tc := ⟨.hbm, 52, rfl⟩
abbrev main_call2_v5 : Ref sig .tc := ⟨.hbm, 53, rfl⟩
abbrev main_call2_v6 : Ref sig .tc := ⟨.hbm, 54, rfl⟩
abbrev main_call2_c_2 : Ref sig .tc := ⟨.hbm, 55, rfl⟩
abbrev main_call2_v7 : Ref sig .tc := ⟨.hbm, 56, rfl⟩
abbrev main_call2_v8 : Ref sig .tc := ⟨.hbm, 57, rfl⟩
abbrev main_call2_c_3 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst : Ref sig .tc := ⟨.hbm, 79, rfl⟩
abbrev main_v31 : Ref sig .tc := ⟨.hbm, 80, rfl⟩
abbrev main_v32 : Ref sig .tc := ⟨.hbm, 81, rfl⟩
abbrev main_cst_2 : Ref sig .tc := ⟨.hbm, 82, rfl⟩
abbrev main_v33 : Ref sig .tc := ⟨.hbm, 83, rfl⟩
abbrev main_v34 : Ref sig .tc := ⟨.hbm, 84, rfl⟩
abbrev main_cst_3 : Ref sig .tc := ⟨.hbm, 85, rfl⟩
abbrev main_v35 : Ref sig .tc := ⟨.hbm, 86, rfl⟩
abbrev main_v36 : Ref sig .tc := ⟨.hbm, 87, rfl⟩
abbrev main_cst_4 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_cst_5 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_cst_6 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_7 : Ref sig .tc := ⟨.hbm, 117, rfl⟩
abbrev main_v63 : Ref sig .tc := ⟨.hbm, 118, rfl⟩
abbrev main_cst_8 : Ref sig .tc := ⟨.hbm, 119, rfl⟩
abbrev main_v64_0 : Ref sig .tc := ⟨.hbm, 120, rfl⟩
abbrev main_v64_1 : Ref sig .tc := ⟨.hbm, 121, rfl⟩
abbrev main_v64_2 : Ref sig .tc := ⟨.hbm, 122, rfl⟩
abbrev main_v64_3 : Ref sig .tc := ⟨.hbm, 123, rfl⟩
abbrev main_while0c_cst_20 : Ref sig .tc := ⟨.hbm, 124, rfl⟩
abbrev main_while0c_v93 : Ref sig .tc := ⟨.hbm, 125, rfl⟩
abbrev main_while0b_v93 : Ref sig .tc := ⟨.hbm, 126, rfl⟩
abbrev main_while0b_v94 : Ref sig .tc := ⟨.hbm, 127, rfl⟩
abbrev main_while0b_cst_20 : Ref sig .tc := ⟨.hbm, 128, rfl⟩
abbrev main_while0b_v95 : Ref sig .tc := ⟨.hbm, 129, rfl⟩
abbrev main_while0b_v96 : Ref sig .tc := ⟨.hbm, 130, rfl⟩
abbrev main_while0b_v97 : Ref sig .tc := ⟨.hbm, 131, rfl⟩
abbrev main_while0b_v98 : Ref sig .tc := ⟨.hbm, 132, rfl⟩
abbrev main_while0b_cst_21 : Ref sig .tc := ⟨.hbm, 133, rfl⟩
abbrev main_while0b_v99 : Ref sig .tc := ⟨.hbm, 134, rfl⟩
abbrev main_while0b_v100 : Ref sig .tc := ⟨.hbm, 135, rfl⟩
abbrev main_while0b_v101 : Ref sig .tc := ⟨.hbm, 136, rfl⟩
abbrev main_while0b_v102 : Ref sig .tc := ⟨.hbm, 137, rfl⟩
abbrev main_while0b_cst_22 : Ref sig .tc := ⟨.hbm, 138, rfl⟩
abbrev main_while0b_v103 : Ref sig .tc := ⟨.hbm, 139, rfl⟩
abbrev main_while0b_v104 : Ref sig .tc := ⟨.hbm, 140, rfl⟩
abbrev main_while0b_v105 : Ref sig .tc := ⟨.hbm, 141, rfl⟩
abbrev main_while0b_v106 : Ref sig .tc := ⟨.hbm, 142, rfl⟩
abbrev main_while0b_v107 : Ref sig .tc := ⟨.hbm, 143, rfl⟩
abbrev main_while0b_v108 : Ref sig .tc := ⟨.hbm, 144, rfl⟩
abbrev main_while0b_v109 : Ref sig .tc := ⟨.hbm, 145, rfl⟩
abbrev main_while0b_cst_23 : Ref sig .tc := ⟨.hbm, 146, rfl⟩
abbrev main_while0b_v110 : Ref sig .tc := ⟨.hbm, 147, rfl⟩
abbrev main_v65 : Ref sig .tc := ⟨.hbm, 148, rfl⟩
abbrev main_cst_9 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_cst_10 : Ref sig .tc := ⟨.hbm, 154, rfl⟩
abbrev main_v70 : Ref sig .tc := ⟨.hbm, 155, rfl⟩
abbrev main_v71 : Ref sig .tc := ⟨.hbm, 156, rfl⟩
abbrev main_cst_11 : Ref sig .tc := ⟨.hbm, 157, rfl⟩
abbrev main_call3_v0 : Ref sig .tc := ⟨.hbm, 158, rfl⟩
abbrev main_call3_v1 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_c_12 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_cst_13 : Ref sig .tc := ⟨.hbm, 169, rfl⟩
abbrev main_v80 : Ref sig .tc := ⟨.hbm, 170, rfl⟩
abbrev main_v81 : Ref sig .tc := ⟨.hbm, 171, rfl⟩
abbrev main_c_14 : Ref sig .tc := ⟨.hbm, 172, rfl⟩
abbrev main_v82 : Ref sig .tc := ⟨.hbm, 173, rfl⟩
abbrev main_v83 : Ref sig .tc := ⟨.hbm, 174, rfl⟩
abbrev main_c_15 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_cst_16 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x72x72x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x65 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x65 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x65 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x128x64x64 : Shape := ⟨4, ![4, 128, 64, 64]⟩
abbrev S256x128x3x3 : Shape := ⟨4, ![256, 128, 3, 3]⟩
abbrev S256 : Shape := ⟨1, ![256]⟩
abbrev S65x256x1x1 : Shape := ⟨4, ![65, 256, 1, 1]⟩
abbrev S65 : Shape := ⟨1, ![65]⟩
abbrev S_ : Shape := ⟨0, ![]⟩
abbrev S4x128x66x66 : Shape := ⟨4, ![4, 128, 66, 66]⟩
abbrev S4x256x64x64 : Shape := ⟨4, ![4, 256, 64, 64]⟩
abbrev S256x128x1x1 : Shape := ⟨4, ![256, 128, 1, 1]⟩
abbrev S256x128 : Shape := ⟨2, ![256, 128]⟩
abbrev S256x4x64x64 : Shape := ⟨4, ![256, 4, 64, 64]⟩
abbrev S1x256x1x1 : Shape := ⟨4, ![1, 256, 1, 1]⟩
abbrev S65x256 : Shape := ⟨2, ![65, 256]⟩
abbrev S65x4x64x64 : Shape := ⟨4, ![65, 4, 64, 64]⟩
abbrev S4x65x64x64 : Shape := ⟨4, ![4, 65, 64, 64]⟩
abbrev S1x65x1x1 : Shape := ⟨4, ![1, 65, 1, 1]⟩
abbrev S4x64x64 : Shape := ⟨3, ![4, 64, 64]⟩
abbrev S4x1x64x64 : Shape := ⟨4, ![4, 1, 64, 64]⟩
abbrev S4x64x64x64 : Shape := ⟨4, ![4, 64, 64, 64]⟩
abbrev S4x8x8x64x64 : Shape := ⟨5, ![4, 8, 8, 64, 64]⟩
abbrev S4x64x8x64x8 : Shape := ⟨5, ![4, 64, 8, 64, 8]⟩
abbrev S4x512x512 : Shape := ⟨3, ![4, 512, 512]⟩
abbrev S4x262144 : Shape := ⟨2, ![4, 262144]⟩
abbrev S4x1024 : Shape := ⟨2, ![4, 1024]⟩
abbrev S1024 : Shape := ⟨1, ![1024]⟩
abbrev S1024x4 : Shape := ⟨2, ![1024, 4]⟩
abbrev S1 : Shape := ⟨1, ![1]⟩
abbrev S4x1 : Shape := ⟨2, ![4, 1]⟩
abbrev S1x1024 : Shape := ⟨2, ![1, 1024]⟩
abbrev S4 : Shape := ⟨1, ![4]⟩
abbrev S1x4 : Shape := ⟨2, ![1, 4]⟩
abbrev S4x1024x1 : Shape := ⟨3, ![4, 1024, 1]⟩
abbrev S4x1024x2 : Shape := ⟨3, ![4, 1024, 2]⟩

abbrev nBuf : Space → Nat
  | .hbm => 312
  | .vmem => 0
  | .smem => 0
  | _ => 0

abbrev hbmTy0_0 (i : Nat) : BufTy := match i % 128 with
  | 0 => ⟨S4x128x64x64, .f32⟩
  | 1 => ⟨S256x128x3x3, .f32⟩
  | 2 => ⟨S256, .f32⟩
  | 3 => ⟨S65x256x1x1, .f32⟩
  | 4 => ⟨S65, .f32⟩
  | 5 => ⟨S_, .i32⟩
  | 6 => ⟨S_, .f32⟩
  | 7 => ⟨S4x128x66x66, .f32⟩
  | 8 => ⟨S_, .f32⟩
  | 9 => ⟨S4x256x64x64, .f32⟩
  | 10 => ⟨S4x128x64x64, .f32⟩
  | 11 => ⟨S256x128x1x1, .f32⟩
  | 12 => ⟨S256x128, .f32⟩
  | 13 => ⟨S256x4x64x64, .f32⟩
  | 14 => ⟨S4x256x64x64, .f32⟩
  | 15 => ⟨S4x256x64x64, .f32⟩
  | 16 => ⟨S4x128x64x64, .f32⟩
  | 17 => ⟨S256x128x1x1, .f32⟩
  | 18 => ⟨S256x128, .f32⟩
  | 19 => ⟨S256x4x64x64, .f32⟩
  | 20 => ⟨S4x256x64x64, .f32⟩
  | 21 => ⟨S4x256x64x64, .f32⟩
  | 22 => ⟨S4x128x64x64, .f32⟩
  | 23 => ⟨S256x128x1x1, .f32⟩
  | 24 => ⟨S256x128, .f32⟩
  | 25 => ⟨S256x4x64x64, .f32⟩
  | 26 => ⟨S4x256x64x64, .f32⟩
  | 27 => ⟨S4x256x64x64, .f32⟩
  | 28 => ⟨S4x128x64x64, .f32⟩
  | 29 => ⟨S256x128x1x1, .f32⟩
  | 30 => ⟨S256x128, .f32⟩
  | 31 => ⟨S256x4x64x64, .f32⟩
  | 32 => ⟨S4x256x64x64, .f32⟩
  | 33 => ⟨S4x256x64x64, .f32⟩
  | 34 => ⟨S4x128x64x64, .f32⟩
  | 35 => ⟨S256x128x1x1, .f32⟩
  | 36 => ⟨S256x128, .f32⟩
  | 37 => ⟨S256x4x64x64, .f32⟩
  | 38 => ⟨S4x256x64x64, .f32⟩
  | 39 => ⟨S4x256x64x64, .f32⟩
  | 40 => ⟨S4x128x64x64, .f32⟩
  | 41 => ⟨S256x128x1x1, .f32⟩
  | 42 => ⟨S256x128, .f32⟩
  | 43 => ⟨S256x4x64x64, .f32⟩
  | 44 => ⟨S4x256x64x64, .f32⟩
  | 45 => ⟨S4x256x64x64, .f32⟩
  | 46 => ⟨S4x128x64x64, .f32⟩
  | 47 => ⟨S256x128x1x1, .f32⟩
  | 48 => ⟨S256x128, .f32⟩
  | 49 => ⟨S256x4x64x64, .f32⟩
  | 50 => ⟨S4x256x64x64, .f32⟩
  | 51 => ⟨S4x256x64x64, .f32⟩
  | 52 => ⟨S4x128x64x64, .f32⟩
  | 53 => ⟨S256x128x1x1, .f32⟩
  | 54 => ⟨S256x128, .f32⟩
  | 55 => ⟨S256x4x64x64, .f32⟩
  | 56 => ⟨S4x256x64x64, .f32⟩
  | 57 => ⟨S4x256x64x64, .f32⟩
  | 58 => ⟨S4x128x64x64, .f32⟩
  | 59 => ⟨S256x128x1x1, .f32⟩
  | 60 => ⟨S256x128, .f32⟩
  | 61 => ⟨S256x4x64x64, .f32⟩
  | 62 => ⟨S4x256x64x64, .f32⟩
  | 63 => ⟨S4x256x64x64, .f32⟩
  | 64 => ⟨S1x256x1x1, .f32⟩
  | 65 => ⟨S4x256x64x64, .f32⟩
  | 66 => ⟨S4x256x64x64, .f32⟩
  | 67 => ⟨S_, .f32⟩
  | 68 => ⟨S4x256x64x64, .f32⟩
  | 69 => ⟨S4x256x64x64, .f32⟩
  | 70 => ⟨S65x256, .f32⟩
  | 71 => ⟨S65x4x64x64, .f32⟩
  | 72 => ⟨S4x65x64x64, .f32⟩
  | 73 => ⟨S1x65x1x1, .f32⟩
  | 74 => ⟨S4x65x64x64, .f32⟩
  | 75 => ⟨S4x65x64x64, .f32⟩
  | 76 => ⟨S_, .f32⟩
  | 77 => ⟨S4x64x64, .f32⟩
  | 78 => ⟨S_, .f32⟩
  | 79 => ⟨S4x64x64, .f32⟩
  | 80 => ⟨S4x64x64, .f32⟩
  | 81 => ⟨S4x1x64x64, .f32⟩
  | 82 => ⟨S4x65x64x64, .f32⟩
  | 83 => ⟨S4x65x64x64, .f32⟩
  | 84 => ⟨S4x65x64x64, .f32⟩
  | 85 => ⟨S_, .f32⟩
  | 86 => ⟨S4x64x64, .f32⟩
  | 87 => ⟨S4x1x64x64, .f32⟩
  | 88 => ⟨S4x65x64x64, .f32⟩
  | 89 => ⟨S4x65x64x64, .f32⟩
  | 90 => ⟨S4x64x64x64, .f32⟩
  | 91 => ⟨S4x8x8x64x64, .f32⟩
  | 92 => ⟨S4x64x8x64x8, .f32⟩
  | 93 => ⟨S4x512x512, .f32⟩
  | 94 => ⟨S4x262144, .f32⟩
  | 95 => ⟨S4x1024, .f32⟩
  | 96 => ⟨S4x1024, .i32⟩
  | 97 => ⟨S_, .f32⟩
  | 98 => ⟨S4x1024, .f32⟩
  | 99 => ⟨S4x1024, .i1⟩
  | 100 => ⟨S_, .i32⟩
  | 101 => ⟨S_, .i32⟩
  | 102 => ⟨S4x1024, .i32⟩
  | 103 => ⟨S4x1024, .i32⟩
  | 104 => ⟨S4x1024, .i32⟩
  | 105 => ⟨S_, .i32⟩
  | 106 => ⟨S4x1024, .i32⟩
  | 107 => ⟨S4x1024, .i1⟩
  | 108 => ⟨S4x1024, .i32⟩
  | 109 => ⟨S4x1024, .i32⟩
  | 110 => ⟨S_, .i32⟩
  | 111 => ⟨S4x1024, .i32⟩
  | 112 => ⟨S4x1024, .i1⟩
  | 113 => ⟨S4x1024, .i1⟩
  | 114 => ⟨S_, .i32⟩
  | 115 => ⟨S4x1024, .i32⟩
  | 116 => ⟨S4x1024, .i32⟩
  | 117 => ⟨S4x1024, .i32⟩
  | 118 => ⟨S4x1024, .f32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S4x1024, .i32⟩
  | 126 => ⟨S4x1024, .i32⟩
  | 127 => ⟨S_, .i32⟩
  | _ => ⟨S4x128x64x64, .f32⟩

abbrev hbmTy0_1 (i : Nat) : BufTy := match i % 128 with
  | 0 => ⟨S4x1024, .i32⟩
  | 1 => ⟨S4x1024, .i1⟩
  | 2 => ⟨S_, .i32⟩
  | 3 => ⟨S4x1024, .i32⟩
  | 4 => ⟨S4x1024, .i1⟩
  | 5 => ⟨S_, .i32⟩
  | 6 => ⟨S_, .i1⟩
  | 7 => ⟨S4x1024, .i1⟩
  | 8 => ⟨S4x1024, .i1⟩
  | 9 => ⟨S4x1024, .i1⟩
  | 10 => ⟨S4x1024, .i32⟩
  | 11 => ⟨S4x1024, .i32⟩
  | 12 => ⟨S4x1024, .i32⟩
  | 13 => ⟨S4x1024, .f32⟩
  | 14 => ⟨S_, .f32⟩
  | 15 => ⟨S4x1024, .f32⟩
  | 16 => ⟨S4x1024, .f32⟩
  | 17 => ⟨S_, .f32⟩
  | 18 => ⟨S4x1024, .f32⟩
  | 19 => ⟨S4x1024, .f32⟩
  | 20 => ⟨S_, .f32⟩
  | 21 => ⟨S4x1024, .f32⟩
  | 22 => ⟨S4x1024, .f32⟩
  | 23 => ⟨S_, .f32⟩
  | 24 => ⟨S4x1024, .f32⟩
  | 25 => ⟨S4x1024, .f32⟩
  | 26 => ⟨S4x1024, .f32⟩
  | 27 => ⟨S4x1024, .f32⟩
  | 28 => ⟨S4x1024, .f32⟩
  | 29 => ⟨S1024, .i32⟩
  | 30 => ⟨S_, .i1⟩
  | 31 => ⟨S4x1024, .i1⟩
  | 32 => ⟨S1024, .i32⟩
  | 33 => ⟨S_, .i1⟩
  | 34 => ⟨S1024x4, .i1⟩
  | 35 => ⟨S_, .i32⟩
  | 36 => ⟨S1024, .i32⟩
  | 37 => ⟨S4x1024, .i1⟩
  | 38 => ⟨S4x1024, .f32⟩
  | 39 => ⟨S4x1024, .f32⟩
  | 40 => ⟨S4x1024, .f32⟩
  | 41 => ⟨S4x1024, .f32⟩
  | 42 => ⟨S4x1024, .f32⟩
  | 43 => ⟨S1024, .i32⟩
  | 44 => ⟨S_, .i32⟩
  | 45 => ⟨S4x1024, .i1⟩
  | 46 => ⟨S1024x4, .i1⟩
  | 47 => ⟨S_, .i32⟩
  | 48 => ⟨S_, .i1⟩
  | 49 => ⟨S1, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S4x1, .i1⟩
  | 58 => ⟨S4x1, .i1⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S4x1, .i1⟩
  | 66 => ⟨S4x1, .i1⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S4x1, .f32⟩
  | 74 => ⟨S4x1024, .f32⟩
  | 75 => ⟨S4x1024, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S4x1, .f32⟩
  | 83 => ⟨S4x1024, .f32⟩
  | 84 => ⟨S4x1024, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S4x1, .f32⟩
  | 92 => ⟨S4x1024, .f32⟩
  | 93 => ⟨S4x1024, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S4x1, .f32⟩
  | 101 => ⟨S4x1024, .f32⟩
  | 102 => ⟨S4x1024, .f32⟩
  | 103 => ⟨S4x1024, .f32⟩
  | 104 => ⟨S_, .f32⟩
  | 105 => ⟨S4x1024, .f32⟩
  | 106 => ⟨S4x1024, .f32⟩
  | 107 => ⟨S4x1024, .f32⟩
  | 108 => ⟨S_, .f32⟩
  | 109 => ⟨S4x1024, .f32⟩
  | 110 => ⟨S4x1024, .f32⟩
  | 111 => ⟨S4x1024, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S4x1, .f32⟩
  | 119 => ⟨S4x1024, .f32⟩
  | 120 => ⟨S4x1024, .f32⟩
  | 121 => ⟨S4x1024, .f32⟩
  | 122 => ⟨S_, .f32⟩
  | 123 => ⟨S4x1024, .f32⟩
  | 124 => ⟨S4x1024, .f32⟩
  | 125 => ⟨S4x1024, .f32⟩
  | 126 => ⟨S_, .f32⟩
  | 127 => ⟨S4x1024, .f32⟩
  | _ => ⟨S4x128x64x64, .f32⟩

abbrev hbmTy0_2 (i : Nat) : BufTy := match i % 128 with
  | 0 => ⟨S4x1024, .i1⟩
  | 1 => ⟨S1024, .i32⟩
  | 2 => ⟨S1024, .i1⟩
  | 3 => ⟨S1x1024, .i1⟩
  | 4 => ⟨S4x1024, .i1⟩
  | 5 => ⟨S4x1024, .i1⟩
  | 6 => ⟨S4x1024, .i1⟩
  | 7 => ⟨S4x1024, .i1⟩
  | 8 => ⟨S4x1024, .i1⟩
  | 9 => ⟨S4, .i1⟩
  | 10 => ⟨S1x4, .i1⟩
  | 11 => ⟨S_, .i32⟩
  | 12 => ⟨S1024x4, .i1⟩
  | 13 => ⟨S_, .i32⟩
  | 14 => ⟨S_, .i32⟩
  | 15 => ⟨S4x1024, .i1⟩
  | 16 => ⟨S4x1024, .i32⟩
  | 17 => ⟨S_, .i32⟩
  | 18 => ⟨S_, .i32⟩
  | 19 => ⟨S4x1024, .i32⟩
  | 20 => ⟨S_, .i32⟩
  | 21 => ⟨S4x1024, .i32⟩
  | 22 => ⟨S4x1024, .i1⟩
  | 23 => ⟨S4x1024, .i1⟩
  | 24 => ⟨S_, .f32⟩
  | 25 => ⟨S4x262144, .f32⟩
  | 26 => ⟨S4, .i32⟩
  | 27 => ⟨S4x1, .i32⟩
  | 28 => ⟨S_, .f32⟩
  | 29 => ⟨S_, .f32⟩
  | 30 => ⟨S4x1024, .f32⟩
  | 31 => ⟨S4x1024, .f32⟩
  | 32 => ⟨S_, .i32⟩
  | 33 => ⟨S4x1, .i32⟩
  | 34 => ⟨S4x1, .i1⟩
  | 35 => ⟨S_, .i32⟩
  | 36 => ⟨S4x1, .i32⟩
  | 37 => ⟨S4x1, .i32⟩
  | 38 => ⟨S4x1, .i32⟩
  | 39 => ⟨S_, .i32⟩
  | 40 => ⟨S4x1024, .i32⟩
  | 41 => ⟨S4x1024, .i1⟩
  | 42 => ⟨S_, .i32⟩
  | 43 => ⟨S4x1024, .i32⟩
  | 44 => ⟨S4x1024, .i32⟩
  | 45 => ⟨S4x1024, .i32⟩
  | 46 => ⟨S4x1024, .i32⟩
  | 47 => ⟨S4x1024x1, .i32⟩
  | 48 => ⟨S4x1024x1, .i32⟩
  | 49 => ⟨S4x1024x2, .i32⟩
  | 50 => ⟨S4x262144, .f32⟩
  | 51 => ⟨S4x512x512, .f32⟩
  | 52 => ⟨S_, .f32⟩
  | 53 => ⟨S4x512x512, .f32⟩
  | 54 => ⟨S4x512x512, .i1⟩
  | 55 => ⟨S4x512x512, .i32⟩
  | _ => ⟨S4x128x64x64, .f32⟩

abbrev hbmTy (i : Nat) : BufTy := match i / 128 with
  | 0 => hbmTy0_0 i
  | 1 => hbmTy0_1 i
  | 2 => hbmTy0_2 i
  | _ => ⟨S4x128x64x64, .f32⟩

abbrev bufTy : (tb : Table) → Fin (tcTables nBuf tb) → BufTy
  | .hbm, ⟨i, _⟩ => hbmTy i
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_call1_cst : Ref sig .tc := ⟨.hbm, 67, rfl⟩
abbrev main_call1_v0 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_0 : Ref sig .tc := ⟨.hbm, 76, rfl⟩
abbrev main_v66 : Ref sig .tc := ⟨.hbm, 77, rfl⟩
abbrev main_cst_1 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_2 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_values : Ref sig .tc := ⟨.hbm, 95, rfl⟩
abbrev main_indices : Ref sig .tc := ⟨.hbm, 96, rfl⟩
abbrev main_cst_3 : Ref sig .tc := ⟨.hbm, 97, rfl⟩
abbrev main_v82 : Ref sig .tc := ⟨.hbm, 98, rfl⟩
abbrev main_v83 : Ref sig .tc := ⟨.hbm, 99, rfl⟩
abbrev main_c_4 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_c : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_0 : Ref sig .tc := ⟨.hbm, 114, rfl⟩
abbrev main_call2_v12 : Ref sig .tc := ⟨.hbm, 115, rfl⟩
abbrev main_call2_v13 : Ref sig .tc := ⟨.hbm, 116, rfl⟩
abbrev main_v84 : Ref sig .tc := ⟨.hbm, 117, rfl⟩
abbrev main_v85 : Ref sig .tc := ⟨.hbm, 118, rfl⟩
abbrev main_c_5 : Ref sig .tc := ⟨.hbm, 119, rfl⟩
abbrev main_call3_v0 : Ref sig .tc := ⟨.hbm, 120, rfl⟩
abbrev main_call3_c : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_c_1 : Ref sig .tc := ⟨.hbm, 127, rfl⟩
abbrev main_call3_v5 : Ref sig .tc := ⟨.hbm, 128, rfl⟩
abbrev main_call3_v6 : Ref sig .tc := ⟨.hbm, 129, rfl⟩
abbrev main_call3_c_2 : Ref sig .tc := ⟨.hbm, 130, rfl⟩
abbrev main_call3_v7 : Ref sig .tc := ⟨.hbm, 131, rfl⟩
abbrev main_call3_v8 : Ref sig .tc := ⟨.hbm, 132, rfl⟩
abbrev main_call3_c_3 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_v12 : Ref sig .tc := ⟨.hbm, 137, rfl⟩
abbrev main_call3_v13 : Ref sig .tc := ⟨.hbm, 138, rfl⟩
abbrev main_call3_v14 : Ref sig .tc := ⟨.hbm, 139, rfl⟩
abbrev main_v86 : Ref sig .tc := ⟨.hbm, 140, rfl⟩
abbrev main_v87 : Ref sig .tc := ⟨.hbm, 141, rfl⟩
abbrev main_cst_6 : Ref sig .tc := ⟨.hbm, 142, rfl⟩
abbrev main_v88 : Ref sig .tc := ⟨.hbm, 143, rfl⟩
abbrev main_v89 : Ref sig .tc := ⟨.hbm, 144, rfl⟩
abbrev main_cst_7 : Ref sig .tc := ⟨.hbm, 145, rfl⟩
abbrev main_v90 : Ref sig .tc := ⟨.hbm, 146, rfl⟩
abbrev main_v91 : Ref sig .tc := ⟨.hbm, 147, rfl⟩
abbrev main_cst_8 : Ref sig .tc := ⟨.hbm, 148, rfl⟩
abbrev main_v92 : Ref sig .tc := ⟨.hbm, 149, rfl⟩
abbrev main_v93 : Ref sig .tc := ⟨.hbm, 150, rfl⟩
abbrev main_cst_9 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_c_10 : Ref sig .tc := ⟨.hbm, 158, rfl⟩
abbrev main_v100 : Ref sig .tc := ⟨.hbm, 159, rfl⟩
abbrev main_v101 : Ref sig .tc := ⟨.hbm, 160, rfl⟩
abbrev main_c_11 : Ref sig .tc := ⟨.hbm, 161, rfl⟩
abbrev main_v102 : Ref sig .tc := ⟨.hbm, 162, rfl⟩
abbrev main_c_12 : Ref sig .tc := ⟨.hbm, 163, rfl⟩
abbrev main_v103_0 : Ref sig .tc := ⟨.hbm, 164, rfl⟩
abbrev main_v103_1 : Ref sig .tc := ⟨.hbm, 165, rfl⟩
abbrev main_v103_2 : Ref sig .tc := ⟨.hbm, 166, rfl⟩
abbrev main_v103_3 : Ref sig .tc := ⟨.hbm, 167, rfl⟩
abbrev main_v103_4 : Ref sig .tc := ⟨.hbm, 168, rfl⟩
abbrev main_v103_5 : Ref sig .tc := ⟨.hbm, 169, rfl⟩
abbrev main_v103_6 : Ref sig .tc := ⟨.hbm, 170, rfl⟩
abbrev main_v103_7 : Ref sig .tc := ⟨.hbm, 171, rfl⟩
abbrev main_v103_8 : Ref sig .tc := ⟨.hbm, 172, rfl⟩
abbrev main_v103_9 : Ref sig .tc := ⟨.hbm, 173, rfl⟩
abbrev main_v103_10 : Ref sig .tc := ⟨.hbm, 174, rfl⟩
abbrev main_while0c_c_31 : Ref sig .tc := ⟨.hbm, 175, rfl⟩
abbrev main_while0c_v133 : Ref sig .tc := ⟨.hbm, 176, rfl⟩
abbrev main_while0b_call4_v0 : Ref sig .tc := ⟨.hbm, 177, rfl⟩
abbrev main_while0b_v133 : Ref sig .tc := ⟨.hbm, 178, rfl⟩
abbrev main_while0b_c_31 : Ref sig .tc := ⟨.hbm, 179, rfl⟩
abbrev main_while0b_v134 : Ref sig .tc := ⟨.hbm, 180, rfl⟩
abbrev main_while0b_c_32 : Ref sig .tc := ⟨.hbm, 181, rfl⟩
abbrev main_while0b_v135 : Ref sig .tc := ⟨.hbm, 182, rfl⟩
abbrev main_while0b_v136 : Ref sig .tc := ⟨.hbm, 183, rfl⟩
abbrev main_while0b_c_33 : Ref sig .tc := ⟨.hbm, 184, rfl⟩
abbrev main_while0b_v137 : Ref sig .tc := ⟨.hbm, 185, rfl⟩
abbrev main_while0b_v138 : Ref sig .tc := ⟨.hbm, 186, rfl⟩
abbrev main_while0b_c_34 : Ref sig .tc := ⟨.hbm, 187, rfl⟩
abbrev main_while0b_v139 : Ref sig .tc := ⟨.hbm, 188, rfl⟩
abbrev main_while0b_c_35 : Ref sig .tc := ⟨.hbm, 189, rfl⟩
abbrev main_while0b_v140 : Ref sig .tc := ⟨.hbm, 190, rfl⟩
abbrev main_while0b_v141 : Ref sig .tc := ⟨.hbm, 191, rfl⟩
abbrev main_while0b_c_36 : Ref sig .tc := ⟨.hbm, 192, rfl⟩
abbrev main_while0b_v142 : Ref sig .tc := ⟨.hbm, 193, rfl⟩
abbrev main_while0b_v143 : Ref sig .tc := ⟨.hbm, 194, rfl⟩
abbrev main_while0b_c_37 : Ref sig .tc := ⟨.hbm, 195, rfl⟩
abbrev main_while0b_v144 : Ref sig .tc := ⟨.hbm, 196, rfl⟩
abbrev main_while0b_c_38 : Ref sig .tc := ⟨.hbm, 197, rfl⟩
abbrev main_while0b_v145 : Ref sig .tc := ⟨.hbm, 198, rfl⟩
abbrev main_while0b_v146 : Ref sig .tc := ⟨.hbm, 199, rfl⟩
abbrev main_while0b_c_39 : Ref sig .tc := ⟨.hbm, 200, rfl⟩
abbrev main_while0b_v147 : Ref sig .tc := ⟨.hbm, 201, rfl⟩
abbrev main_while0b_v148 : Ref sig .tc := ⟨.hbm, 202, rfl⟩
abbrev main_while0b_v149 : Ref sig .tc := ⟨.hbm, 203, rfl⟩
abbrev main_while0b_c_40 : Ref sig .tc := ⟨.hbm, 204, rfl⟩
abbrev main_while0b_v150 : Ref sig .tc := ⟨.hbm, 205, rfl⟩
abbrev main_while0b_c_41 : Ref sig .tc := ⟨.hbm, 206, rfl⟩
abbrev main_while0b_v151 : Ref sig .tc := ⟨.hbm, 207, rfl⟩
abbrev main_while0b_v152 : Ref sig .tc := ⟨.hbm, 208, rfl⟩
abbrev main_while0b_c_42 : Ref sig .tc := ⟨.hbm, 209, rfl⟩
abbrev main_while0b_v153 : Ref sig .tc := ⟨.hbm, 210, rfl⟩
abbrev main_while0b_v154 : Ref sig .tc := ⟨.hbm, 211, rfl⟩
abbrev main_while0b_v155 : Ref sig .tc := ⟨.hbm, 212, rfl⟩
abbrev main_while0b_c_43 : Ref sig .tc := ⟨.hbm, 213, rfl⟩
abbrev main_while0b_v156 : Ref sig .tc := ⟨.hbm, 214, rfl⟩
abbrev main_while0b_c_44 : Ref sig .tc := ⟨.hbm, 215, rfl⟩
abbrev main_while0b_v157 : Ref sig .tc := ⟨.hbm, 216, rfl⟩
abbrev main_while0b_v158 : Ref sig .tc := ⟨.hbm, 217, rfl⟩
abbrev main_while0b_c_45 : Ref sig .tc := ⟨.hbm, 218, rfl⟩
abbrev main_while0b_v159 : Ref sig .tc := ⟨.hbm, 219, rfl⟩
abbrev main_while0b_v160 : Ref sig .tc := ⟨.hbm, 220, rfl⟩
abbrev main_while0b_v161 : Ref sig .tc := ⟨.hbm, 221, rfl⟩
abbrev main_while0b_c_46 : Ref sig .tc := ⟨.hbm, 222, rfl⟩
abbrev main_while0b_v162 : Ref sig .tc := ⟨.hbm, 223, rfl⟩
abbrev main_while0b_c_47 : Ref sig .tc := ⟨.hbm, 224, rfl⟩
abbrev main_while0b_v163 : Ref sig .tc := ⟨.hbm, 225, rfl⟩
abbrev main_while0b_v164 : Ref sig .tc := ⟨.hbm, 226, rfl⟩
abbrev main_while0b_c_48 : Ref sig .tc := ⟨.hbm, 227, rfl⟩
abbrev main_while0b_v165 : Ref sig .tc := ⟨.hbm, 228, rfl⟩
abbrev main_while0b_v166 : Ref sig .tc := ⟨.hbm, 229, rfl⟩
abbrev main_while0b_v167 : Ref sig .tc := ⟨.hbm, 230, rfl⟩
abbrev main_while0b_v168 : Ref sig .tc := ⟨.hbm, 231, rfl⟩
abbrev main_while0b_cst_49 : Ref sig .tc := ⟨.hbm, 232, rfl⟩
abbrev main_while0b_v169 : Ref sig .tc := ⟨.hbm, 233, rfl⟩
abbrev main_while0b_v170 : Ref sig .tc := ⟨.hbm, 234, rfl⟩
abbrev main_while0b_v171 : Ref sig .tc := ⟨.hbm, 235, rfl⟩
abbrev main_while0b_cst_50 : Ref sig .tc := ⟨.hbm, 236, rfl⟩
abbrev main_while0b_v172 : Ref sig .tc := ⟨.hbm, 237, rfl⟩
abbrev main_while0b_v173 : Ref sig .tc := ⟨.hbm, 238, rfl⟩
abbrev main_while0b_v174 : Ref sig .tc := ⟨.hbm, 239, rfl⟩
abbrev main_while0b_c_51 : Ref sig .tc := ⟨.hbm, 240, rfl⟩
abbrev main_while0b_v175 : Ref sig .tc := ⟨.hbm, 241, rfl⟩
abbrev main_while0b_c_52 : Ref sig .tc := ⟨.hbm, 242, rfl⟩
abbrev main_while0b_v176 : Ref sig .tc := ⟨.hbm, 243, rfl⟩
abbrev main_while0b_v177 : Ref sig .tc := ⟨.hbm, 244, rfl⟩
abbrev main_while0b_c_53 : Ref sig .tc := ⟨.hbm, 245, rfl⟩
abbrev main_while0b_v178 : Ref sig .tc := ⟨.hbm, 246, rfl⟩
abbrev main_while0b_v179 : Ref sig .tc := ⟨.hbm, 247, rfl⟩
abbrev main_while0b_v180 : Ref sig .tc := ⟨.hbm, 248, rfl⟩
abbrev main_while0b_v181 : Ref sig .tc := ⟨.hbm, 249, rfl⟩
abbrev main_while0b_cst_54 : Ref sig .tc := ⟨.hbm, 250, rfl⟩
abbrev main_while0b_v182 : Ref sig .tc := ⟨.hbm, 251, rfl⟩
abbrev main_while0b_v183 : Ref sig .tc := ⟨.hbm, 252, rfl⟩
abbrev main_while0b_v184 : Ref sig .tc := ⟨.hbm, 253, rfl⟩
abbrev main_while0b_cst_55 : Ref sig .tc := ⟨.hbm, 254, rfl⟩
abbrev main_while0b_v185 : Ref sig .tc := ⟨.hbm, 255, rfl⟩
abbrev main_while0b_v186 : Ref sig .tc := ⟨.hbm, 256, rfl⟩
abbrev main_while0b_v187 : Ref sig .tc := ⟨.hbm, 257, rfl⟩
abbrev main_while0b_v188 : Ref sig .tc := ⟨.hbm, 258, rfl⟩
abbrev main_while0b_v189 : Ref sig .tc := ⟨.hbm, 259, rfl⟩
abbrev main_while0b_v190 : Ref sig .tc := ⟨.hbm, 260, rfl⟩
abbrev main_while0b_v191 : Ref sig .tc := ⟨.hbm, 261, rfl⟩
abbrev main_while0b_v192 : Ref sig .tc := ⟨.hbm, 262, rfl⟩
abbrev main_while0b_v193 : Ref sig .tc := ⟨.hbm, 263, rfl⟩
abbrev main_while0b_v194 : Ref sig .tc := ⟨.hbm, 264, rfl⟩
abbrev main_while0b_v195 : Ref sig .tc := ⟨.hbm, 265, rfl⟩
abbrev main_while0b_call5_v0 : Ref sig .tc := ⟨.hbm, 266, rfl⟩
abbrev main_while0b_call5_c : Ref sig .tc := ⟨.hbm, 267, rfl⟩
abbrev main_while0b_v196 : Ref sig .tc := ⟨.hbm, 268, rfl⟩
abbrev main_while0b_c_56 : Ref sig .tc := ⟨.hbm, 269, rfl⟩
abbrev main_while0b_v197 : Ref sig .tc := ⟨.hbm, 270, rfl⟩
abbrev main_v104 : Ref sig .tc := ⟨.hbm, 271, rfl⟩
abbrev main_v105 : Ref sig .tc := ⟨.hbm, 272, rfl⟩
abbrev main_call6_call0_c : Ref sig .tc := ⟨.hbm, 273, rfl⟩
abbrev main_call6_call0_v0 : Ref sig .tc := ⟨.hbm, 274, rfl⟩
abbrev main_v106 : Ref sig .tc := ⟨.hbm, 275, rfl⟩
abbrev main_c_13 : Ref sig .tc := ⟨.hbm, 276, rfl⟩
abbrev main_v107 : Ref sig .tc := ⟨.hbm, 277, rfl⟩
abbrev main_v108 : Ref sig .tc := ⟨.hbm, 278, rfl⟩
abbrev main_v109 : Ref sig .tc := ⟨.hbm, 279, rfl⟩
abbrev main_cst_14 : Ref sig .tc := ⟨.hbm, 280, rfl⟩
abbrev main_v110 : Ref sig .tc := ⟨.hbm, 281, rfl⟩
abbrev main_v111 : Ref sig .tc := ⟨.hbm, 282, rfl⟩
abbrev main_v112 : Ref sig .tc := ⟨.hbm, 283, rfl⟩
abbrev main_cst_15 : Ref sig .tc := ⟨.hbm, 284, rfl⟩
abbrev main_call7_v0 : Ref sig .tc := ⟨.hbm, 285, rfl⟩
abbrev main_call7_v1 : Ref sig .tc := ⟨.hbm, 286, rfl⟩
abbrev main_v113 : Ref sig .tc := ⟨.hbm, 287, rfl⟩
abbrev main_c_16 : Ref sig .tc := ⟨.hbm, 288, rfl⟩
abbrev main_v114 : Ref sig .tc := ⟨.hbm, 289, rfl⟩
abbrev main_v115 : Ref sig .tc := ⟨.hbm, 290, rfl⟩
abbrev main_c_17 : Ref sig .tc := ⟨.hbm, 291, rfl⟩
abbrev main_v116 : Ref sig .tc := ⟨.hbm, 292, rfl⟩
abbrev main_v117 : Ref sig .tc := ⟨.hbm, 293, rfl⟩
abbrev main_v118 : Ref sig .tc := ⟨.hbm, 294, rfl⟩
abbrev main_c_18 : Ref sig .tc := ⟨.hbm, 295, rfl⟩
abbrev main_v119 : Ref sig .tc := ⟨.hbm, 296, rfl⟩
abbrev main_v120 : Ref sig .tc := ⟨.hbm, 297, rfl⟩
abbrev main_c_19 : Ref sig .tc := ⟨.hbm, 298, rfl⟩
abbrev main_v121 : Ref sig .tc := ⟨.hbm, 299, rfl⟩
abbrev main_v122 : Ref sig .tc := ⟨.hbm, 300, rfl⟩
abbrev main_v123 : Ref sig .tc := ⟨.hbm, 301, rfl⟩
abbrev main_v124 : Ref sig .tc := ⟨.hbm, 302, rfl⟩
abbrev main_v125 : Ref sig .tc := ⟨.hbm, 303, rfl⟩
abbrev main_v126 : Ref sig .tc := ⟨.hbm, 304, rfl⟩
abbrev main_v127 : Ref sig .tc := ⟨.hbm, 305, rfl⟩
abbrev main_v128 : Ref sig .tc := ⟨.hbm, 306, rfl⟩
abbrev main_v129 : Ref sig .tc := ⟨.hbm, 307, rfl⟩
abbrev main_cst_20 : Ref sig .tc := ⟨.hbm, 308, rfl⟩
abbrev main_v130 : Ref sig .tc := ⟨.hbm, 309, rfl⟩
abbrev main_v131 : Ref sig .tc := ⟨.hbm, 310, rfl⟩
abbrev main_v132 : Ref sig .tc := ⟨.hbm, 311, rfl⟩

abbrev nD : Nat := 1
abbrev τ : Topo := Topo.v7x

variable {F : FTy → Type} [FloatOps F]

abbrev main_while0_count : Scf.Loop 32 := ⟨0#32, 1024#32, 1#32⟩
-- ==== Proof.Spec.lean ====
module

public import Idealize.ShloMosaic.Init
public import Idealize.ShloMosaic.Lib.Pointwise

/-!
# The mathematics of the head, at one place of the image

Everything is over the extended reals. `hidden` is a convolution channel after its nine taps have been
summed, `logit` the second (1x1) convolution, `soft` the softmax of the 65 logits of a place.
-/

@[expose] public section

noncomputable section

namespace Cert.Spec

open Idealize.ShloMosaic Idealize.ShloMosaic.Pointwise

/-- One channel of the first convolution: nine taps, the bias, and the positive part. -/
def hidden (T : Fin 9 → EReal) (β : EReal) : EReal :=
  max (T 0 + T 1 + T 2 + T 3 + T 4 + T 5 + T 6 + T 7 + T 8 + β) 0

/-- One logit: the channels against the weights, and the bias. -/
def logit (h w : Fin 256 → EReal) (β : EReal) : EReal := (∑ o, h o * w o) + β

/-- The greatest of the logits of a place (from the word of minus infinity). -/
def top (l : Fin 65 → EReal) : EReal := Finset.univ.fold max (Ideal.ofBits .f32 0xFF800000#32) l

/-- The softmax of the logits of a place. -/
def soft (l : Fin 65 → EReal) (v : Fin 65) : EReal :=
  Ideal.div (Ideal.exp (l v - top l)) (∑ k, Ideal.exp (l k - top l))

/-- Taking the maximum with the starting value once more changes nothing. -/
theorem max_top (l : Fin 65 → EReal) : max (Ideal.ofBits .f32 0xFF800000#32) (top l) = top l :=
  max_eq_right ((Finset.le_fold_max _).mpr (Or.inl le_rfl))

/-! ## The arrays -/

/-- The feature map with a border of zeros, read at row `Y` and column `X` of the bordered image. -/
def pixel (x : (⟨4, ![4, 128, 64, 64]⟩ : Shape).Idx → EReal) (b : Fin 4) (c : Fin 128) (Y X : ℕ) : EReal :=
  if h : (1 ≤ Y ∧ Y - 1 < 64) ∧ 1 ≤ X ∧ X - 1 < 64 then x (ix4 b c ⟨Y - 1, h.1.2⟩ ⟨X - 1, h.2.2⟩) else 0

/-- Tap `k` of the 3x3 convolution for channel `o` at row `y`, column `x`. -/
def tap (x : (⟨4, ![4, 128, 64, 64]⟩ : Shape).Idx → EReal) (w : (⟨4, ![256, 128, 3, 3]⟩ : Shape).Idx → EReal)
    (b : Fin 4) (y z : ℕ) (o : Fin 256) (k : Fin 9) : EReal :=
  ∑ c : Fin 128, pixel x b c (k.val / 3 + y) (k.val % 3 + z)
    * w (ix4 o c ⟨k.val / 3, by omega⟩ ⟨k.val % 3, by omega⟩)

/-- The 65 logits at row `y`, column `z` of image `b`. -/
def logits (x : (⟨4, ![4, 128, 64, 64]⟩ : Shape).Idx → EReal) (w : (⟨4, ![256, 128, 3, 3]⟩ : Shape).Idx → EReal)
    (ba : (⟨1, ![256]⟩ : Shape).Idx → EReal) (wb : (⟨4, ![65, 256, 1, 1]⟩ : Shape).Idx → EReal)
    (bb : (⟨1, ![65]⟩ : Shape).Idx → EReal) (b : Fin 4) (y z : ℕ) (v : Fin 65) : EReal :=
  logit (fun o => hidden (tap x w b y z o) (ba (ix1 o))) (fun o => wb (ix4 v o 0 0)) (bb (ix1 v))

/-- The heat map: pixel `(Y, X)` takes probability `8 (Y % 8) + X % 8` of place `(Y / 8, X / 8)`. -/
def heat (x : (⟨4, ![4, 128, 64, 64]⟩ : Shape).Idx → EReal) (w : (⟨4, ![256, 128, 3, 3]⟩ : Shape).Idx → EReal)
    (ba : (⟨1, ![256]⟩ : Shape).Idx → EReal) (wb : (⟨4, ![65, 256, 1, 1]⟩ : Shape).Idx → EReal)
    (bb : (⟨1, ![65]⟩ : Shape).Idx → EReal) (b : Fin 4) (Y X : Fin 512) : EReal :=
  soft (logits x w ba wb bb b (Y.val / 8) (X.val / 8)) ⟨Y.val % 8 * 8 + X.val % 8, by omega⟩

end Cert.Spec

end

end
-- ==== Proof.Block.lean ====
module

public import proofs.«01_k».proof.Proof.Spec
public import proofs.«01_k».proof.Proof.Gen.HeadIdeal.Frame

/-!
# What one block of the kernel computes
-/

@[expose] public section

set_option maxRecDepth 16384

noncomputable section

namespace Cert.HeadIdeal.Block

open Idealize.ShloMosaic Cert.HeadIdeal Cert.HeadIdeal.Gen Pointwise

variable (x0 : Vec Ideal S1x72x72x128 .f32) (x1 : Vec Ideal S9x128x256 .f32) (x2 : Vec Ideal S1x256 .f32)
  (x3 : Vec Ideal S256x65 .f32) (x4 : Vec Ideal S1x65 .f32)

/-- Tap `k` at place `p` of the block for channel `o`. -/
def btap (p : Fin 4096) (o : Fin 256) (k : Fin 9) : EReal :=
  ∑ c : Fin 128, x0 (ix4 0 ⟨k.val / 3 + p.val / 64, by omega⟩ ⟨k.val % 3 + p.val % 64, by omega⟩ c) * x1 (ix3 k c o)

/-- The 65 logits at place `p` of the block. -/
def blogit (p : Fin 4096) (v : Fin 65) : EReal :=
  Spec.logit (fun o => Spec.hidden (btap x0 x1 p o) (x2 (ix2 0 o))) (fun o => x3 (ix2 o v)) (x4 (ix2 0 v))

theorem pay8_apply (p : Fin 4096) (v : Fin 65) :
    k0_pay8 (F := Ideal) (k0_pay11 x0 x1 x2 x3 x4) (k0_pay12 x0 x1 x2 x3 x4) (k0_pay13 x0 x1 x2 x3 x4)
      (View.ld x0 r0_16) (View.ld x1 r0_17) (View.ld x2 r0_18) (View.ld x3 r0_19) (View.ld x4 r0_20) (ix2 p v)
      = blogit x0 x1 x2 x3 x4 p v := by
  unfold k0_pay8 k0_pay11 k0_pay12 k0_pay13 k0_pay5 k0_pay2 k0_pay3 k0_pay4 k0_pay6 k0_pay7
  pointwise
  unfold blogit Spec.logit Spec.hidden btap
  pointwise

/-- What the block's first output holds. -/
theorem pay9_apply (p : Fin 4096) (v : Fin 65) :
    k0_pay9 (F := Ideal) (k0_pay11 x0 x1 x2 x3 x4) (k0_pay12 x0 x1 x2 x3 x4) (k0_pay13 x0 x1 x2 x3 x4)
      (View.ld x0 r0_16) (View.ld x1 r0_17) (View.ld x2 r0_18) (View.ld x3 r0_19) (View.ld x4 r0_20) (ix3 0 p v)
      = blogit x0 x1 x2 x3 x4 p v := by
  unfold k0_pay9
  pointwise
  exact pay8_apply x0 x1 x2 x3 x4 p v

/-- What the block's second output holds: the softmax, without its last entry. -/
theorem pay1_apply (p : Fin 4096) (v : Fin 64) :
    k0_pay1 (F := Ideal) (k0_pay10 (k0_pay11 x0 x1 x2 x3 x4) (k0_pay12 x0 x1 x2 x3 x4) (k0_pay13 x0 x1 x2 x3 x4)
      (View.ld x0 r0_16) (View.ld x1 r0_17) (View.ld x2 r0_18) (View.ld x3 r0_19) (View.ld x4 r0_20)) (ix3 0 p v)
      = Spec.soft (blogit x0 x1 x2 x3 x4 p) ⟨v.val, by omega⟩ := by
  have hL := pay8_apply x0 x1 x2 x3 x4 p
  unfold k0_pay1 k0_pay10
  generalize k0_pay8 (F := Ideal) _ _ _ _ _ _ _ _ = L at hL ⊢
  pointwise
  simp only [hL]
  rfl

end Cert.HeadIdeal.Block

end

end
-- ==== Proof.Arrays.lean ====
module

public import proofs.«01_k».proof.Proof.Block
public import Idealize.ShloMosaic.Lib.Pipeline.ValueKit
public import Idealize.ShloMosaic.Lib.StableHlo.ReadAt

/-!
# What the arrays hold after the kernel, and what the program returns
-/

@[expose] public section

set_option maxRecDepth 16384

noncomputable section

namespace Cert.HeadIdeal.Block

open Idealize.ShloMosaic Idealize.ShloMosaic.TcCoe Idealize.SL Idealize.SL.Sem Cert.HeadIdeal Cert.HeadIdeal.Gen Pointwise

variable (m : (ℓ : Loc nD τ sig) → Buf (Elt Ideal) ℓ) (ρ : Dev nD → PrngReg)

/-! ## The operands of the kernel, as the host lines leave them -/

theorem V_v1 (c : Dev nD) (b : Fin 4) (y x : Fin 72) (k : Fin 128) :
    (V m c main_v1 : S4x72x72x128.Idx → EReal) (ix4 b y x k) = Spec.pixel (m ((c : Thread nD τ).loc main_arg0)) b k y x := by
  after_reads_at
  unfold Spec.pixel
  have hz : (FloatOps.sitofp (F := Ideal) FTy.f32 (0#32) : EReal) = 0 := by
    show (((0#32 : BitVec 32).toInt : ℝ) : EReal) = 0
    simp
  rw [hz]

theorem V_v3 (c : Dev nD) (k : Fin 9) (i : Fin 128) (o : Fin 256) :
    (V m c main_v3 : S9x128x256.Idx → EReal) (ix3 k i o) = (m ((c : Thread nD τ).loc main_arg1) : S256x128x3x3.Idx → EReal) (ix4 o i ⟨k.val / 3, by omega⟩ ⟨k.val % 3, by omega⟩) := by
  after_reads_at
theorem V_v6 (c : Dev nD) (o : Fin 256) :
    (V m c main_v6 : S1x256.Idx → EReal) (ix2 0 o) = (m ((c : Thread nD τ).loc main_arg2) : S256.Idx → EReal) (ix1 o) := by
  after_reads_at
theorem V_v5 (c : Dev nD) (o : Fin 256) (v : Fin 65) :
    (V m c main_v5 : S256x65.Idx → EReal) (ix2 o v) = (m ((c : Thread nD τ).loc main_arg3) : S65x256x1x1.Idx → EReal) (ix4 v o 0 0) := by
  after_reads_at
theorem V_v7 (c : Dev nD) (v : Fin 65) :
    (V m c main_v7 : S1x65.Idx → EReal) (ix2 0 v) = (m ((c : Thread nD τ).loc main_arg4) : S65.Idx → EReal) (ix1 v) := by
  after_reads_at

/-! ## The blocks -/

theorem index0 : ∀ t : Fin cfg0.N, win0_0.index t = ![t.val, 0, 0, 0] := by decide +kernel
theorem index5 : ∀ t : Fin cfg0.N, win0_5.index t = ![t.val, 0, 0] := by decide +kernel
theorem index6 : ∀ t : Fin cfg0.N, win0_6.index t = ![t.val, 0, 0] := by decide +kernel
theorem index1 : ∀ t : Fin cfg0.N, win0_1.index t = ![0, 0, 0] := by decide +kernel

theorem iblk0 (c : Dev nD) (t : Fin cfg0.N) (y x : Fin 72) (k : Fin 128) :
    (iblk m c 0 t : S1x72x72x128.Idx → EReal) (ix4 0 y x k) = Spec.pixel (m ((c : Thread nD τ).loc main_arg0)) (t.cast N_0) k y x := by
  rw [← V_v1]
  show V m c main_v1 _ = _
  refine congrArg (V m c main_v1) (funext fun a => Fin.ext ?_)
  fin_cases a <;> blk_simp [index0] <;> rfl

theorem iblk1 (c : Dev nD) (t : Fin cfg0.N) (k : Fin 9) (i : Fin 128) (o : Fin 256) :
    (iblk m c 1 t : S9x128x256.Idx → EReal) (ix3 k i o) = V m c main_v3 (ix3 k i o) := by
  refine congrArg (V m c main_v3) (funext fun a => Fin.ext ?_)
  fin_cases a <;> blk_simp [index1] <;> rfl

theorem index2 : ∀ t : Fin cfg0.N, win0_2.index t = ![0, 0] := by decide +kernel

theorem iblk2 (c : Dev nD) (t : Fin cfg0.N) (o : Fin 256) :
    (iblk m c 2 t : S1x256.Idx → EReal) (ix2 0 o) = V m c main_v6 (ix2 0 o) := by
  refine congrArg (V m c main_v6) (funext fun a => Fin.ext ?_)
  fin_cases a <;> blk_simp [index2] <;> rfl

theorem index3 : ∀ t : Fin cfg0.N, win0_3.index t = ![0, 0] := by decide +kernel

theorem iblk3 (c : Dev nD) (t : Fin cfg0.N) (o : Fin 256) (v : Fin 65) :
    (iblk m c 3 t : S256x65.Idx → EReal) (ix2 o v) = V m c main_v5 (ix2 o v) := by
  refine congrArg (V m c main_v5) (funext fun a => Fin.ext ?_)
  fin_cases a <;> blk_simp [index3] <;> rfl

theorem index4 : ∀ t : Fin cfg0.N, win0_4.index t = ![0, 0] := by decide +kernel

theorem iblk4 (c : Dev nD) (t : Fin cfg0.N) (v : Fin 65) :
    (iblk m c 4 t : S1x65.Idx → EReal) (ix2 0 v) = V m c main_v7 (ix2 0 v) := by
  refine congrArg (V m c main_v7) (funext fun a => Fin.ext ?_)
  fin_cases a <;> blk_simp [index4] <;> rfl

theorem emb5 (t : Fin cfg0.N) (k : Fin 4096) (v : Fin 65) :
    ((View.whole main_v8_0).slice (win0_5.rect t)).emb (ix3 0 k v) = ix3 (t.cast N_0) k v := by
  refine funext fun a => Fin.ext ?_
  fin_cases a <;> blk_simp [index5] <;> rfl

theorem emb6 (t : Fin cfg0.N) (k : Fin 4096) (v : Fin 64) :
    ((View.whole main_v8_1).slice (win0_6.rect t)).emb (ix3 0 k v) = ix3 (t.cast N_0) k v := by
  refine funext fun a => Fin.ext ?_
  fin_cases a <;> blk_simp [index6] <;> rfl

/-- The logits of a block are those of its image. -/
theorem blogit_eq (c : Dev nD) (t : Fin cfg0.N) (p : Fin 4096) :
    blogit (iblk m c 0 t) (iblk m c 1 t) (iblk m c 2 t) (iblk m c 3 t) (iblk m c 4 t) p
      = Spec.logits (m ((c : Thread nD τ).loc main_arg0)) (m ((c : Thread nD τ).loc main_arg1)) (m ((c : Thread nD τ).loc main_arg2))
          (m ((c : Thread nD τ).loc main_arg3)) (m ((c : Thread nD τ).loc main_arg4)) (t.cast N_0) (p.val / 64) (p.val % 64) := by
  funext v
  have e1 : ∀ k i o, (iblk m c 1 t : S9x128x256.Idx → EReal) (ix3 k i o) = _ := fun k i o => (iblk1 m c t k i o).trans (V_v3 m c k i o)
  have e2 : ∀ o, (iblk m c 2 t : S1x256.Idx → EReal) (ix2 0 o) = _ := fun o => (iblk2 m c t o).trans (V_v6 m c o)
  have e3 : ∀ o v, (iblk m c 3 t : S256x65.Idx → EReal) (ix2 o v) = _ := fun o v => (iblk3 m c t o v).trans (V_v5 m c o v)
  have e4 : ∀ v, (iblk m c 4 t : S1x65.Idx → EReal) (ix2 0 v) = _ := fun v => (iblk4 m c t v).trans (V_v7 m c v)
  unfold blogit Spec.logits
  refine congr (congr (congrArg Spec.logit (funext fun o => congr (congrArg Spec.hidden (funext fun k => ?_)) (e2 o))) (funext fun o => e3 o v)) (e4 v)
  unfold btap Spec.tap
  exact Finset.sum_congr rfl fun i _ => congr (congrArg _ (iblk0 m c t _ _ i)) (e1 k i o)

/-! ## The arrays after the kernel -/

/-- The first array after the kernel. -/
def lg (c : Dev nD) : Buf (Elt Ideal) ((c : Thread nD τ).loc main_v8_0) := fun (j : S4x4096x65.Idx) =>
  Spec.logits (m ((c : Thread nD τ).loc main_arg0)) (m ((c : Thread nD τ).loc main_arg1)) (m ((c : Thread nD τ).loc main_arg2))
    (m ((c : Thread nD τ).loc main_arg3)) (m ((c : Thread nD τ).loc main_arg4)) (j 0) ((j 1).val / 64) ((j 1).val % 64) (j 2)

/-- The second array after the kernel. -/
def pr (c : Dev nD) : Buf (Elt Ideal) ((c : Thread nD τ).loc main_v8_1) := fun (j : S4x4096x64.Idx) =>
  Spec.soft (Spec.logits (m ((c : Thread nD τ).loc main_arg0)) (m ((c : Thread nD τ).loc main_arg1)) (m ((c : Thread nD τ).loc main_arg2))
    (m ((c : Thread nD τ).loc main_arg3)) (m ((c : Thread nD τ).loc main_arg4)) (j 0) ((j 1).val / 64) ((j 1).val % 64))
    ⟨(j 2).val, Nat.lt_of_lt_of_le (j 2).isLt (by decide)⟩

theorem hz1 : (![0, 0, 0] : Fin 3 → ℕ) = fun _ => 0 := funext fun a => by fin_cases a <;> rfl

theorem arr5 (c : Dev nD) : (dats m 0 c).arrAt 5 cfg0.N = lg m c := by
  refine (dats m 0 c).arrAt_eq_of_covers 5 _ (by decide +kernel) fun t hf y => ?_
  idx_vars y
  obtain rfl : y0 = 0 := Subsingleton.elim _ _
  blk_simp
  rw [after0_5]
  unfold out0_5
  rw [View.canon_unit_zero hz1, emb5]
  refine (pay9_apply _ _ _ _ _ y1 y2).trans ?_
  rw [blogit_eq]
  rfl

theorem arr6 (c : Dev nD) : (dats m 0 c).arrAt 6 cfg0.N = pr m c := by
  refine (dats m 0 c).arrAt_eq_of_covers 6 _ (by decide +kernel) fun t hf y => ?_
  idx_vars y
  obtain rfl : y0 = 0 := Subsingleton.elim _ _
  blk_simp
  rw [after0_6]
  unfold out0_6
  rw [View.canon_unit_zero hz1, emb6]
  refine (pay1_apply _ _ _ _ _ y1 y2).trans ?_
  rw [blogit_eq]
  rfl

end Cert.HeadIdeal.Block

end

end
-- ==== Proof.HeadRun.lean ====
module

public import proofs.«01_k».proof.Proof.Arrays

/-!
# What the kernel returns

The host's last layout operations read the two arrays: the logits at place `(y, x)` and the heat map at
pixel `(Y, X)`, which is probability `8 (Y % 8) + X % 8` of place `(Y / 8, X / 8)`.
-/

@[expose] public section

set_option maxRecDepth 16384

noncomputable section

namespace Cert.HeadIdeal.Block

open Idealize.ShloMosaic Idealize.ShloMosaic.TcCoe Idealize.SL Idealize.SL.Sem Idealize.ShloMosaic.Pointwise
open Cert.HeadIdeal Cert.HeadIdeal.Gen

variable (m : (ℓ : Loc nD τ sig) → Buf (Elt Ideal) ℓ) (ρ : Dev nD → PrngReg)

/-- The memory of a device where the host goes on after the kernel. -/
def mid (c : Dev nD) : Valuation τ sig (Elt Ideal) :=
  Pipeline.withArrays (cfgs 0).spec c (V0 m c) fun w => (dats m 0 c).arrAt w (cfgs 0).N

theorem mid5 (c : Dev nD) : mid m c (Proc.devRef .tc main_v8_0) = lg m c :=
  (Pipeline.withArrays_arr spec0 (by decide) c (V0 m c) _ 5).trans (arr5 m c)

theorem mid6 (c : Dev nD) : mid m c (Proc.devRef .tc main_v8_1) = pr m c :=
  (Pipeline.withArrays_arr spec0 (by decide) c (V0 m c) _ 6).trans (arr6 m c)

theorem end10 (c : Dev nD) (b : Fin 4) (v : Fin 65) (y x : Fin 64) :
    (Pipeline.afterTail₀ cfgs (dats m) 0 (V0 m) [hostOps1] c main_v10 : S4x65x64x64.Idx → EReal) (ix4 b v y x)
      = Spec.logits (m ((c : Thread nD τ).loc main_arg0)) (m ((c : Thread nD τ).loc main_arg1)) (m ((c : Thread nD τ).loc main_arg2))
          (m ((c : Thread nD τ).loc main_arg3)) (m ((c : Thread nD τ).loc main_arg4)) b y x v := by
  unfold Pipeline.afterTail₀
  change (StableHlo.after ([hostOps1].flatten) (mid m c) (Proc.devRef .tc main_v10) : S4x65x64x64.Idx → EReal) _ = _
  simp only [List.flatten_cons, List.flatten_nil, List.append_nil, hostOps1]
  after_reads_at
  rw [mid5]
  show Spec.logits _ _ _ _ _ b ((y.val * 64 + x.val) / 64) ((y.val * 64 + x.val) % 64) v = _
  rw [show (y.val * 64 + x.val) / 64 = y.val from by omega, show (y.val * 64 + x.val) % 64 = x.val from by omega]

theorem pr_at (c : Dev nD) (b : Fin 4) (Y X : Fin 512) (p : Fin 4096) (k : Fin 64) (hp : p.val = Y.val / 8 * 64 + X.val / 8)
    (hk : k.val = Y.val % 8 * 8 + X.val % 8) :
    (mid m c (Proc.devRef .tc main_v8_1) : S4x4096x64.Idx → EReal) (ix3 b p k)
      = Spec.heat (m ((c : Thread nD τ).loc main_arg0)) (m ((c : Thread nD τ).loc main_arg1)) (m ((c : Thread nD τ).loc main_arg2))
          (m ((c : Thread nD τ).loc main_arg3)) (m ((c : Thread nD τ).loc main_arg4)) b Y X := by
  have e : (mid m c (Proc.devRef .tc main_v8_1) : S4x4096x64.Idx → EReal) = pr m c := mid6 m c
  have hy : p.val / 64 = Y.val / 8 := by omega
  have hx : p.val % 64 = X.val / 8 := by omega
  rw [e]
  unfold pr Spec.heat
  exact congr (congrArg Spec.soft (congr (congrArg _ hy) hx)) (Fin.ext hk)

theorem end13 (c : Dev nD) (b : Fin 4) (Y X : Fin 512) :
    (Pipeline.afterTail₀ cfgs (dats m) 0 (V0 m) [hostOps1] c main_v13 : S4x512x512.Idx → EReal) (ix3 b Y X)
      = Spec.heat (m ((c : Thread nD τ).loc main_arg0)) (m ((c : Thread nD τ).loc main_arg1)) (m ((c : Thread nD τ).loc main_arg2))
          (m ((c : Thread nD τ).loc main_arg3)) (m ((c : Thread nD τ).loc main_arg4)) b Y X := by
  unfold Pipeline.afterTail₀
  change (StableHlo.after ([hostOps1].flatten) (mid m c) (Proc.devRef .tc main_v13) : S4x512x512.Idx → EReal) _ = _
  simp only [List.flatten_cons, List.flatten_nil, List.append_nil, hostOps1]
  after_reads_at
  exact pr_at m c b Y X _ _ rfl rfl

/-- The whole run: the two results and the arguments. -/
theorem run : θ_run defs (onTc (τ := τ) (main (F := Ideal))) ⟨m, fun _ => 0, ρ⟩ (fun r => ∀ c : Dev nD,
      r.2.mem ((c.tc : Thread nD τ).loc main_v10) = Pipeline.afterTail₀ cfgs (dats m) 0 (V0 m) [hostOps1] c main_v10
      ∧ r.2.mem ((c.tc : Thread nD τ).loc main_v13) = Pipeline.afterTail₀ cfgs (dats m) 0 (V0 m) [hostOps1] c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1, (h.1 c).2, h.2 c⟩) (θ_run_and
    ((θ_run defs _ _).mono (fun r (h : Pipeline.FramePost _ _ _ _ r) c =>
      And.intro ((h c).2 main_v10 (Pipeline.mem_restRefs_of main_v10 (by decide) (by decide)))
        ((h c).2 main_v13 (Pipeline.mem_restRefs_of main_v13 (by decide) (by decide)))) (run_main m ρ))
    (unchanged m ρ))

end Cert.HeadIdeal.Block

end

end
-- ==== Proof.RefHead.lean ====
module

public import proofs.«01_k».proof.Proof.Spec
public import proofs.«01_k».proof.Proof.Gen.HeadReferenceIdeal.Read

/-!
# What the reference computes
-/

@[expose] public section

set_option maxRecDepth 16384

noncomputable section

namespace Cert.HeadReferenceIdeal.Val

open Idealize.ShloMosaic Cert.HeadReferenceIdeal Cert.HeadReferenceIdeal.Read Pointwise

variable (x0 : (⟨S4x128x64x64, .f32⟩ : BufTy).Contents (Elt Ideal)) (x1 : (⟨S256x128x3x3, .f32⟩ : BufTy).Contents (Elt Ideal))
  (x2 : (⟨S256, .f32⟩ : BufTy).Contents (Elt Ideal)) (x3 : (⟨S65x256x1x1, .f32⟩ : BufTy).Contents (Elt Ideal))
  (x4 : (⟨S65, .f32⟩ : BufTy).Contents (Elt Ideal))

/-- The integer zero as a real number. -/
theorem zero_word : (FloatOps.sitofp (F := Ideal) FTy.f32 (0#32) : EReal) = 0 := by
  show (((0#32 : BitVec 32).toInt : ℝ) : EReal) = 0
  simp

/-- The bordered feature map. -/
theorem v0_apply (b : Fin 4) (c : Fin 128) (y x : Fin 66) :
    val_main_v0 (F := Ideal) x0 (ix4 b c y x) = Spec.pixel x0 b c y x := by
  unfold val_main_v0 val_main_call0_v0 val_main_c
  pointwise
  unfold Spec.pixel
  rw [zero_word]

/-- Tap 0. -/
theorem v6_apply (b : Fin 4) (o : Fin 256) (y x : Fin 64) :
    val_main_v6 (F := Ideal) x0 x1 (ix4 b o y x) = Spec.tap x0 x1 b y x o 0 := by
  unfold val_main_v6 val_main_v5 val_main_v4 val_main_v3 val_main_v2
  have h := v0_apply x0
  generalize val_main_v0 (F := Ideal) x0 = z at h ⊢
  pointwise
  simp only [h]
  unfold Spec.tap
  refine Finset.sum_congr rfl fun c _ => ?_
  rw [mul_comm]
  pointwise

/-- Tap 1. -/
theorem v12_apply (b : Fin 4) (o : Fin 256) (y x : Fin 64) :
    val_main_v12 (F := Ideal) x0 x1 (ix4 b o y x) = Spec.tap x0 x1 b y x o 1 := by
  unfold val_main_v12 val_main_v11 val_main_v10 val_main_v9 val_main_v8
  have h := v0_apply x0
  generalize val_main_v0 (F := Ideal) x0 = z at h ⊢
  pointwise
  simp only [h]
  unfold Spec.tap
  refine Finset.sum_congr rfl fun c _ => ?_
  rw [mul_comm]
  pointwise

/-- Tap 2. -/
theorem v18_apply (b : Fin 4) (o : Fin 256) (y x : Fin 64) :
    val_main_v18 (F := Ideal) x0 x1 (ix4 b o y x) = Spec.tap x0 x1 b y x o 2 := by
  unfold val_main_v18 val_main_v17 val_main_v16 val_main_v15 val_main_v14
  have h := v0_apply x0
  generalize val_main_v0 (F := Ideal) x0 = z at h ⊢
  pointwise
  simp only [h]
  unfold Spec.tap
  refine Finset.sum_congr rfl fun c _ => ?_
  rw [mul_comm]
  pointwise

/-- Tap 3. -/
theorem v24_apply (b : Fin 4) (o : Fin 256) (y x : Fin 64) :
    val_main_v24 (F := Ideal) x0 x1 (ix4 b o y x) = Spec.tap x0 x1 b y x o 3 := by
  unfold val_main_v24 val_main_v23 val_main_v22 val_main_v21 val_main_v20
  have h := v0_apply x0
  generalize val_main_v0 (F := Ideal) x0 = z at h ⊢
  pointwise
  simp only [h]
  unfold Spec.tap
  refine Finset.sum_congr rfl fun c _ => ?_
  rw [mul_comm]
  pointwise

/-- Tap 4. -/
theorem v30_apply (b : Fin 4) (o : Fin 256) (y x : Fin 64) :
    val_main_v30 (F := Ideal) x0 x1 (ix4 b o y x) = Spec.tap x0 x1 b y x o 4 := by
  unfold val_main_v30 val_main_v29 val_main_v28 val_main_v27 val_main_v26
  have h := v0_apply x0
  generalize val_main_v0 (F := Ideal) x0 = z at h ⊢
  pointwise
  simp only [h]
  unfold Spec.tap
  refine Finset.sum_congr rfl fun c _ => ?_
  rw [mul_comm]
  pointwise

/-- Tap 5. -/
theorem v36_apply (b : Fin 4) (o : Fin 256) (y x : Fin 64) :
    val_main_v36 (F := Ideal) x0 x1 (ix4 b o y x) = Spec.tap x0 x1 b y x o 5 := by
  unfold val_main_v36 val_main_v35 val_main_v34 val_main_v33 val_main_v32
  have h := v0_apply x0
  generalize val_main_v0 (F := Ideal) x0 = z at h ⊢
  pointwise
  simp only [h]
  unfold Spec.tap
  refine Finset.sum_congr rfl fun c _ => ?_
  rw [mul_comm]
  pointwise

/-- Tap 6. -/
theorem v42_apply (b : Fin 4) (o : Fin 256) (y x : Fin 64) :
    val_main_v42 (F := Ideal) x0 x1 (ix4 b o y x) = Spec.tap x0 x1 b y x o 6 := by
  unfold val_main_v42 val_main_v41 val_main_v40 val_main_v39 val_main_v38
  have h := v0_apply x0
  generalize val_main_v0 (F := Ideal) x0 = z at h ⊢
  pointwise
  simp only [h]
  unfold Spec.tap
  refine Finset.sum_congr rfl fun c _ => ?_
  rw [mul_comm]
  pointwise

/-- Tap 7. -/
theorem v48_apply (b : Fin 4) (o : Fin 256) (y x : Fin 64) :
    val_main_v48 (F := Ideal) x0 x1 (ix4 b o y x) = Spec.tap x0 x1 b y x o 7 := by
  unfold val_main_v48 val_main_v47 val_main_v46 val_main_v45 val_main_v44
  have h := v0_apply x0
  generalize val_main_v0 (F := Ideal) x0 = z at h ⊢
  pointwise
  simp only [h]
  unfold Spec.tap
  refine Finset.sum_congr rfl fun c _ => ?_
  rw [mul_comm]
  pointwise

/-- Tap 8. -/
theorem v54_apply (b : Fin 4) (o : Fin 256) (y x : Fin 64) :
    val_main_v54 (F := Ideal) x0 x1 (ix4 b o y x) = Spec.tap x0 x1 b y x o 8 := by
  unfold val_main_v54 val_main_v53 val_main_v52 val_main_v51 val_main_v50
  have h := v0_apply x0
  generalize val_main_v0 (F := Ideal) x0 = z at h ⊢
  pointwise
  simp only [h]
  unfold Spec.tap
  refine Finset.sum_congr rfl fun c _ => ?_
  rw [mul_comm]
  pointwise

/-- The first convolution and its positive part. -/
theorem v59_apply (b : Fin 4) (o : Fin 256) (y x : Fin 64) :
    val_main_v59 (F := Ideal) x0 x1 x2 (ix4 b o y x) = Spec.hidden (Spec.tap x0 x1 b y x o) (x2 (ix1 o)) := by
  unfold val_main_v59 val_main_v58 val_main_v57 val_main_v56 val_main_v55 val_main_v49 val_main_v43 val_main_v37
    val_main_v31 val_main_v25 val_main_v19 val_main_v13 val_main_v7 val_main_v1 val_main_cst val_main_call1_v0 val_main_call1_cst
  pointwise [v6_apply, v12_apply, v18_apply, v24_apply, v30_apply, v36_apply, v42_apply, v48_apply, v54_apply]
  unfold Spec.hidden
  pointwise

/-- The logits. -/
theorem v65_apply (b : Fin 4) (v : Fin 65) (y x : Fin 64) :
    val_main_v65 (F := Ideal) x0 x1 x2 x3 x4 (ix4 b v y x) = Spec.logits x0 x1 x2 x3 x4 b y x v := by
  unfold val_main_v65 val_main_v64 val_main_v63 val_main_v62 val_main_v61 val_main_v60
  have h := v59_apply x0 x1 x2
  generalize val_main_v59 (F := Ideal) x0 x1 x2 = z at h ⊢
  pointwise
  simp only [h]
  unfold Spec.logits Spec.logit
  refine congrArg (· + _) (Finset.sum_congr rfl fun c _ => mul_comm _ _)

/-- The heat map. -/
theorem v80_apply (b : Fin 4) (Y X : Fin 512) :
    val_main_v80 (F := Ideal) x0 x1 x2 x3 x4 (ix3 b Y X) = Spec.heat x0 x1 x2 x3 x4 b Y X := by
  unfold val_main_v80 val_main_v79 val_main_v78 val_main_v77 val_main_v76 val_main_v75 val_main_v74 val_main_v73
    val_main_v72 val_main_v71 val_main_v70 val_main_v69 val_main_v68 val_main_v67 val_main_v66
    val_main_cst_0 val_main_cst_1 val_main_cst_2
  have h := v65_apply x0 x1 x2 x3 x4
  generalize val_main_v65 (F := Ideal) x0 x1 x2 x3 x4 = L at h ⊢
  pointwise
  simp only [h]
  unfold Spec.heat Spec.soft
  rw [← Spec.max_top]
  rfl

end Cert.HeadReferenceIdeal.Val

end

end
-- ==== Proof.KFrame.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Claim
public import Idealize.ShloMosaic.Lib.Ring
public import Idealize.ShloMosaic.Lib.Tactic
public import Idealize.ShloMosaic.Lib.WordCmp

/-!
# The kernel's region in the whole program

The body's triple, the proof data and the body obligation, as for the head alone.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents where the region is entered: after the host operations before it. -/
abbrev V0 (c : Dev nD) : Valuation τ sig (Elt F) := StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1x72x72x128 := Rect.unit (s := S1x72x72x128) ![0, 0, 0, 0] S1x64x64x128.size inb_S1x72x72x128_S1x64x64x128_0_0_0_0
abbrev r0_1 : Rect S9x128x256 := Rect.unit (s := S9x128x256) ![0, 0, 0] S1x128x256.size inb_S9x128x256_S1x128x256_0_0_0
abbrev r0_2 : Rect S1x72x72x128 := Rect.unit (s := S1x72x72x128) ![0, 0, 1, 0] S1x64x64x128.size inb_S1x72x72x128_S1x64x64x128_0_0_1_0
abbrev r0_3 : Rect S9x128x256 := Rect.unit (s := S9x128x256) ![1, 0, 0] S1x128x256.size inb_S9x128x256_S1x128x256_1_0_0
abbrev r0_4 : Rect S1x72x72x128 := Rect.unit (s := S1x72x72x128) ![0, 0, 2, 0] S1x64x64x128.size inb_S1x72x72x128_S1x64x64x128_0_0_2_0
abbrev r0_5 : Rect S9x128x256 := Rect.unit (s := S9x128x256) ![2, 0, 0] S1x128x256.size inb_S9x128x256_S1x128x256_2_0_0
abbrev r0_6 : Rect S1x72x72x128 := Rect.unit (s := S1x72x72x128) ![0, 1, 0, 0] S1x64x64x128.size inb_S1x72x72x128_S1x64x64x128_0_1_0_0
abbrev r0_7 : Rect S9x128x256 := Rect.unit (s := S9x128x256) ![3, 0, 0] S1x128x256.size inb_S9x128x256_S1x128x256_3_0_0
abbrev r0_8 : Rect S1x72x72x128 := Rect.unit (s := S1x72x72x128) ![0, 1, 1, 0] S1x64x64x128.size inb_S1x72x72x128_S1x64x64x128_0_1_1_0
abbrev r0_9 : Rect S9x128x256 := Rect.unit (s := S9x128x256) ![4, 0, 0] S1x128x256.size inb_S9x128x256_S1x128x256_4_0_0
abbrev r0_10 : Rect S1x72x72x128 := Rect.unit (s := S1x72x72x128) ![0, 1, 2, 0] S1x64x64x128.size inb_S1x72x72x128_S1x64x64x128_0_1_2_0
abbrev r0_11 : Rect S9x128x256 := Rect.unit (s := S9x128x256) ![5, 0, 0] S1x128x256.size inb_S9x128x256_S1x128x256_5_0_0
abbrev r0_12 : Rect S1x72x72x128 := Rect.unit (s := S1x72x72x128) ![0, 2, 0, 0] S1x64x64x128.size inb_S1x72x72x128_S1x64x64x128_0_2_0_0
abbrev r0_13 : Rect S9x128x256 := Rect.unit (s := S9x128x256) ![6, 0, 0] S1x128x256.size inb_S9x128x256_S1x128x256_6_0_0
abbrev r0_14 : Rect S1x72x72x128 := Rect.unit (s := S1x72x72x128) ![0, 2, 1, 0] S1x64x64x128.size inb_S1x72x72x128_S1x64x64x128_0_2_1_0
abbrev r0_15 : Rect S9x128x256 := Rect.unit (s := S9x128x256) ![7, 0, 0] S1x128x256.size inb_S9x128x256_S1x128x256_7_0_0
abbrev r0_16 : Rect S1x72x72x128 := Rect.unit (s := S1x72x72x128) ![0, 2, 2, 0] S1x64x64x128.size inb_S1x72x72x128_S1x64x64x128_0_2_2_0
abbrev r0_17 : Rect S9x128x256 := Rect.unit (s := S9x128x256) ![8, 0, 0] S1x128x256.size inb_S9x128x256_S1x128x256_8_0_0
abbrev r0_18 : Rect S1x256 := Rect.unit (s := S1x256) ![0, 0] S1x256.size inb_S1x256_S1x256_0_0
abbrev r0_19 : Rect S256x65 := Rect.unit (s := S256x65) ![0, 0] S256x65.size inb_S256x65_S256x65_0_0
abbrev r0_20 : Rect S1x65 := Rect.unit (s := S1x65) ![0, 0] S1x65.size inb_S1x65_S1x65_0_0
abbrev r0_21 : Rect S1x4096x65 := Rect.unit (s := S1x4096x65) ![0, 0, 0] S1x4096x65.size inb_S1x4096x65_S1x4096x65_0_0_0
abbrev r0_22 : Rect S1x4096x64 := Rect.unit (s := S1x4096x64) ![0, 0, 0] S1x4096x64.size inb_S1x4096x64_S1x4096x64_0_0_0

/-! ## What the body leaves in each output window's buffer -/

/-! ### Values of the body that the stores' payloads, spelt out, would write more than once

    Each is a vector the body binds (often a part call's result), stated over the input windows' blocks and
    numbered on from the skeleton's payload functions (`k0_pay11` …, after `k0_pay10`), so that
    `out0_W` and the values after it name it instead of spelling it out; the comment after each is the printed function's
    name for the value (a count appended where that name is bound again). -/

def k0_pay11 (x0 : Vec F S1x72x72x128 .f32) (x1 : Vec F S9x128x256 .f32) (x2 : Vec F S1x256 .f32) (x3 : Vec F S256x65 .f32) (x4 : Vec F S1x65 .f32) : FVec F S4096x256 .f32 :=
  k0_pay5 (k0_pay2 (View.ld x0 r0_0) (View.ld x1 r0_1) (View.ld x0 r0_2) (View.ld x1 r0_3) (View.ld x0 r0_4) (View.ld x1 r0_5)) (k0_pay3 (View.ld x0 r0_6)) (k0_pay4 (View.ld x1 r0_7)) (View.ld x0 r0_8) (View.ld x1 r0_9) (View.ld x0 r0_10) (View.ld x1 r0_11) (View.ld x0 r0_12) (View.ld x1 r0_13) -- `v49`
def k0_pay12 (x0 : Vec F S1x72x72x128 .f32) (x1 : Vec F S9x128x256 .f32) (x2 : Vec F S1x256 .f32) (x3 : Vec F S256x65 .f32) (x4 : Vec F S1x65 .f32) : FVec F S4096x128 .f32 :=
  k0_pay6 (View.ld x0 r0_14) -- `v52`
def k0_pay13 (x0 : Vec F S1x72x72x128 .f32) (x1 : Vec F S9x128x256 .f32) (x2 : Vec F S1x256 .f32) (x3 : Vec F S256x65 .f32) (x4 : Vec F S1x65 .f32) : FVec F S128x256 .f32 :=
  k0_pay7 (View.ld x1 r0_15) -- `v54`

/-- Window 5's staging buffer after the body, from the input windows' blocks: its 1 store as pieces, LAST
    FIRST (Lib/Pipeline/FrameBody.lean `View.canon`; the payloads are the skeleton's and the values stated above). -/
def out0_5 (x0 : Vec F S1x72x72x128 .f32) (x1 : Vec F S9x128x256 .f32) (x2 : Vec F S1x256 .f32) (x3 : Vec F S256x65 .f32) (x4 : Vec F S1x65 .f32) : Vec F S1x4096x65 .f32 :=
  View.canon [⟨r0_21, k0_pay9 (k0_pay11 x0 x1 x2 x3 x4) (k0_pay12 x0 x1 x2 x3 x4) (k0_pay13 x0 x1 x2 x3 x4) (View.ld x0 r0_16) (View.ld x1 r0_17) (View.ld x2 r0_18) (View.ld x3 r0_19) (View.ld x4 r0_20)⟩]

/-- Its stores tile the buffer (checked by evaluation), so they cover it. -/
theorem cover0_5 (p0 : Vec F S1x4096x65 .f32) (y : S1x4096x65.Idx) :
    ∃ pc ∈ ([⟨r0_21, p0⟩] : List (View.Piece (Elt F) S1x4096x65 .f32)), y ∈ pc.1.set :=
  View.cover_of_tiled [⟨r0_21, p0⟩] S1x4096x65.size (by rfl) y

/-- Window 6's staging buffer after the body, from the input windows' blocks: its 1 store as pieces, LAST
    FIRST (Lib/Pipeline/FrameBody.lean `View.canon`; the payloads are the skeleton's and the values stated above). -/
def out0_6 (x0 : Vec F S1x72x72x128 .f32) (x1 : Vec F S9x128x256 .f32) (x2 : Vec F S1x256 .f32) (x3 : Vec F S256x65 .f32) (x4 : Vec F S1x65 .f32) : Vec F S1x4096x64 .f32 :=
  View.canon [⟨r0_22, k0_pay1 (k0_pay10 (k0_pay11 x0 x1 x2 x3 x4) (k0_pay12 x0 x1 x2 x3 x4) (k0_pay13 x0 x1 x2 x3 x4) (View.ld x0 r0_16) (View.ld x1 r0_17) (View.ld x2 r0_18) (View.ld x3 r0_19) (View.ld x4 r0_20))⟩]

/-- Its stores tile the buffer (checked by evaluation), so they cover it. -/
theorem cover0_6 (p0 : Vec F S1x4096x64 .f32) (y : S1x4096x64.Idx) :
    ∃ pc ∈ ([⟨r0_22, p0⟩] : List (View.Piece (Elt F) S1x4096x64 .f32)), y ∈ pc.1.set :=
  View.cover_of_tiled [⟨r0_22, p0⟩] S1x4096x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1x72x72x128 .f32) (harg1 : arg1.IsWhole) (arg2 : Memref sig .tc .vmem S9x128x256 .f32) (harg2 : arg2.IsWhole) (arg3 : Memref sig .tc .vmem S1x256 .f32) (harg3 : arg3.IsWhole) (arg4 : Memref sig .tc .vmem S256x65 .f32) (harg4 : arg4.IsWhole) (arg5 : Memref sig .tc .vmem S1x65 .f32) (harg5 : arg5.IsWhole) (arg6 : Memref sig .tc .vmem S1x4096x65 .f32) (harg6 : arg6.IsWhole) (arg7 : Memref sig .tc .vmem S1x4096x64 .f32) (harg7 : arg7.IsWhole)
    (x0 : Vec F S1x72x72x128 .f32) (x1 : Vec F S9x128x256 .f32) (x2 : Vec F S1x256 .f32) (x3 : Vec F S256x65 .f32) (x4 : Vec F S1x65 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__head_body i arg1 harg1 arg2 harg2 arg3 harg3 arg4 harg4 arg5 harg5 arg6 harg6 arg7 harg7) K := by
  simp only [cc0__head_body_eq_skeleton]; unfold cc0__head_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _)).trans ?_
    rfl
  iexists _; isplitr
  swap; · iexact H6
  ipureintro
  refine (View.read_writes_eq_canon _ _ _ (cover0_6 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Gen

end

end
-- ==== Proof.KBlock.lean ====
module

public import proofs.«01_k».proof.Proof.Spec
public import proofs.«01_k».proof.Proof.KFrame

/-!
# What one block of the kernel computes
-/

@[expose] public section

set_option maxRecDepth 16384

noncomputable section

namespace Cert.KernelIdeal.Block

open Idealize.ShloMosaic Cert.KernelIdeal Cert.KernelIdeal.Gen Pointwise

variable (x0 : Vec Ideal S1x72x72x128 .f32) (x1 : Vec Ideal S9x128x256 .f32) (x2 : Vec Ideal S1x256 .f32)
  (x3 : Vec Ideal S256x65 .f32) (x4 : Vec Ideal S1x65 .f32)

/-- Tap `k` at place `p` of the block for channel `o`. -/
def btap (p : Fin 4096) (o : Fin 256) (k : Fin 9) : EReal :=
  ∑ c : Fin 128, x0 (ix4 0 ⟨k.val / 3 + p.val / 64, by omega⟩ ⟨k.val % 3 + p.val % 64, by omega⟩ c) * x1 (ix3 k c o)

/-- The 65 logits at place `p` of the block. -/
def blogit (p : Fin 4096) (v : Fin 65) : EReal :=
  Spec.logit (fun o => Spec.hidden (btap x0 x1 p o) (x2 (ix2 0 o))) (fun o => x3 (ix2 o v)) (x4 (ix2 0 v))

theorem pay8_apply (p : Fin 4096) (v : Fin 65) :
    k0_pay8 (F := Ideal) (k0_pay11 x0 x1 x2 x3 x4) (k0_pay12 x0 x1 x2 x3 x4) (k0_pay13 x0 x1 x2 x3 x4)
      (View.ld x0 r0_16) (View.ld x1 r0_17) (View.ld x2 r0_18) (View.ld x3 r0_19) (View.ld x4 r0_20) (ix2 p v)
      = blogit x0 x1 x2 x3 x4 p v := by
  unfold k0_pay8 k0_pay11 k0_pay12 k0_pay13 k0_pay5 k0_pay2 k0_pay3 k0_pay4 k0_pay6 k0_pay7
  pointwise
  unfold blogit Spec.logit Spec.hidden btap
  pointwise

/-- What the block's first output holds. -/
theorem pay9_apply (p : Fin 4096) (v : Fin 65) :
    k0_pay9 (F := Ideal) (k0_pay11 x0 x1 x2 x3 x4) (k0_pay12 x0 x1 x2 x3 x4) (k0_pay13 x0 x1 x2 x3 x4)
      (View.ld x0 r0_16) (View.ld x1 r0_17) (View.ld x2 r0_18) (View.ld x3 r0_19) (View.ld x4 r0_20) (ix3 0 p v)
      = blogit x0 x1 x2 x3 x4 p v := by
  unfold k0_pay9
  pointwise
  exact pay8_apply x0 x1 x2 x3 x4 p v

/-- What the block's second output holds: the softmax, without its last entry. -/
theorem pay1_apply (p : Fin 4096) (v : Fin 64) :
    k0_pay1 (F := Ideal) (k0_pay10 (k0_pay11 x0 x1 x2 x3 x4) (k0_pay12 x0 x1 x2 x3 x4) (k0_pay13 x0 x1 x2 x3 x4)
      (View.ld x0 r0_16) (View.ld x1 r0_17) (View.ld x2 r0_18) (View.ld x3 r0_19) (View.ld x4 r0_20)) (ix3 0 p v)
      = Spec.soft (blogit x0 x1 x2 x3 x4 p) ⟨v.val, by omega⟩ := by
  have hL := pay8_apply x0 x1 x2 x3 x4 p
  unfold k0_pay1 k0_pay10
  generalize k0_pay8 (F := Ideal) _ _ _ _ _ _ _ _ = L at hL ⊢
  pointwise
  simp only [hL]
  rfl

end Cert.KernelIdeal.Block

end

end
-- ==== Proof.KArrays.lean ====
module

public import proofs.«01_k».proof.Proof.KBlock
public import Idealize.ShloMosaic.Lib.Pipeline.ValueKit
public import Idealize.ShloMosaic.Lib.StableHlo.ReadAt

/-!
# What the arrays hold after the kernel, and what the program returns
-/

@[expose] public section

set_option maxRecDepth 16384

noncomputable section

namespace Cert.KernelIdeal.Block

open Idealize.ShloMosaic Idealize.ShloMosaic.TcCoe Idealize.SL Idealize.SL.Sem Cert.KernelIdeal Cert.KernelIdeal.Gen Pointwise

variable (m : (ℓ : Loc nD τ sig) → Buf (Elt Ideal) ℓ) (ρ : Dev nD → PrngReg)

/-! ## The operands of the kernel, as the host lines leave them -/

theorem V_v1 (c : Dev nD) (b : Fin 4) (y x : Fin 72) (k : Fin 128) :
    (V m c main_v1 : S4x72x72x128.Idx → EReal) (ix4 b y x k) = Spec.pixel (m ((c : Thread nD τ).loc main_arg0)) b k y x := by
  after_reads_at
  unfold Spec.pixel
  have hz : (FloatOps.sitofp (F := Ideal) FTy.f32 (0#32) : EReal) = 0 := by
    show (((0#32 : BitVec 32).toInt : ℝ) : EReal) = 0
    simp
  rw [hz]

theorem V_v3 (c : Dev nD) (k : Fin 9) (i : Fin 128) (o : Fin 256) :
    (V m c main_v3 : S9x128x256.Idx → EReal) (ix3 k i o) = (m ((c : Thread nD τ).loc main_arg1) : S256x128x3x3.Idx → EReal) (ix4 o i ⟨k.val / 3, by omega⟩ ⟨k.val % 3, by omega⟩) := by
  after_reads_at
theorem V_v6 (c : Dev nD) (o : Fin 256) :
    (V m c main_v6 : S1x256.Idx → EReal) (ix2 0 o) = (m ((c : Thread nD τ).loc main_arg2) : S256.Idx → EReal) (ix1 o) := by
  after_reads_at
theorem V_v5 (c : Dev nD) (o : Fin 256) (v : Fin 65) :
    (V m c main_v5 : S256x65.Idx → EReal) (ix2 o v) = (m ((c : Thread nD τ).loc main_arg3) : S65x256x1x1.Idx → EReal) (ix4 v o 0 0) := by
  after_reads_at
theorem V_v7 (c : Dev nD) (v : Fin 65) :
    (V m c main_v7 : S1x65.Idx → EReal) (ix2 0 v) = (m ((c : Thread nD τ).loc main_arg4) : S65.Idx → EReal) (ix1 v) := by
  after_reads_at

/-! ## The blocks -/

theorem index0 : ∀ t : Fin cfg0.N, win0_0.index t = ![t.val, 0, 0, 0] := by decide +kernel
theorem index5 : ∀ t : Fin cfg0.N, win0_5.index t = ![t.val, 0, 0] := by decide +kernel
theorem index6 : ∀ t : Fin cfg0.N, win0_6.index t = ![t.val, 0, 0] := by decide +kernel
theorem index1 : ∀ t : Fin cfg0.N, win0_1.index t = ![0, 0, 0] := by decide +kernel

theorem iblk0 (c : Dev nD) (t : Fin cfg0.N) (y x : Fin 72) (k : Fin 128) :
    (iblk m c 0 t : S1x72x72x128.Idx → EReal) (ix4 0 y x k) = Spec.pixel (m ((c : Thread nD τ).loc main_arg0)) (t.cast N_0) k y x := by
  rw [← V_v1]
  show V m c main_v1 _ = _
  refine congrArg (V m c main_v1) (funext fun a => Fin.ext ?_)
  fin_cases a <;> blk_simp [index0] <;> rfl

theorem iblk1 (c : Dev nD) (t : Fin cfg0.N) (k : Fin 9) (i : Fin 128) (o : Fin 256) :
    (iblk m c 1 t : S9x128x256.Idx → EReal) (ix3 k i o) = V m c main_v3 (ix3 k i o) := by
  refine congrArg (V m c main_v3) (funext fun a => Fin.ext ?_)
  fin_cases a <;> blk_simp [index1] <;> rfl

theorem index2 : ∀ t : Fin cfg0.N, win0_2.index t = ![0, 0] := by decide +kernel

theorem iblk2 (c : Dev nD) (t : Fin cfg0.N) (o : Fin 256) :
    (iblk m c 2 t : S1x256.Idx → EReal) (ix2 0 o) = V m c main_v6 (ix2 0 o) := by
  refine congrArg (V m c main_v6) (funext fun a => Fin.ext ?_)
  fin_cases a <;> blk_simp [index2] <;> rfl

theorem index3 : ∀ t : Fin cfg0.N, win0_3.index t = ![0, 0] := by decide +kernel

theorem iblk3 (c : Dev nD) (t : Fin cfg0.N) (o : Fin 256) (v : Fin 65) :
    (iblk m c 3 t : S256x65.Idx → EReal) (ix2 o v) = V m c main_v5 (ix2 o v) := by
  refine congrArg (V m c main_v5) (funext fun a => Fin.ext ?_)
  fin_cases a <;> blk_simp [index3] <;> rfl

theorem index4 : ∀ t : Fin cfg0.N, win0_4.index t = ![0, 0] := by decide +kernel

theorem iblk4 (c : Dev nD) (t : Fin cfg0.N) (v : Fin 65) :
    (iblk m c 4 t : S1x65.Idx → EReal) (ix2 0 v) = V m c main_v7 (ix2 0 v) := by
  refine congrArg (V m c main_v7) (funext fun a => Fin.ext ?_)
  fin_cases a <;> blk_simp [index4] <;> rfl

theorem emb5 (t : Fin cfg0.N) (k : Fin 4096) (v : Fin 65) :
    ((View.whole main_v8_0).slice (win0_5.rect t)).emb (ix3 0 k v) = ix3 (t.cast N_0) k v := by
  refine funext fun a => Fin.ext ?_
  fin_cases a <;> blk_simp [index5] <;> rfl

theorem emb6 (t : Fin cfg0.N) (k : Fin 4096) (v : Fin 64) :
    ((View.whole main_v8_1).slice (win0_6.rect t)).emb (ix3 0 k v) = ix3 (t.cast N_0) k v := by
  refine funext fun a => Fin.ext ?_
  fin_cases a <;> blk_simp [index6] <;> rfl

/-- The logits of a block are those of its image. -/
theorem blogit_eq (c : Dev nD) (t : Fin cfg0.N) (p : Fin 4096) :
    blogit (iblk m c 0 t) (iblk m c 1 t) (iblk m c 2 t) (iblk m c 3 t) (iblk m c 4 t) p
      = Spec.logits (m ((c : Thread nD τ).loc main_arg0)) (m ((c : Thread nD τ).loc main_arg1)) (m ((c : Thread nD τ).loc main_arg2))
          (m ((c : Thread nD τ).loc main_arg3)) (m ((c : Thread nD τ).loc main_arg4)) (t.cast N_0) (p.val / 64) (p.val % 64) := by
  funext v
  have e1 : ∀ k i o, (iblk m c 1 t : S9x128x256.Idx → EReal) (ix3 k i o) = _ := fun k i o => (iblk1 m c t k i o).trans (V_v3 m c k i o)
  have e2 : ∀ o, (iblk m c 2 t : S1x256.Idx → EReal) (ix2 0 o) = _ := fun o => (iblk2 m c t o).trans (V_v6 m c o)
  have e3 : ∀ o v, (iblk m c 3 t : S256x65.Idx → EReal) (ix2 o v) = _ := fun o v => (iblk3 m c t o v).trans (V_v5 m c o v)
  have e4 : ∀ v, (iblk m c 4 t : S1x65.Idx → EReal) (ix2 0 v) = _ := fun v => (iblk4 m c t v).trans (V_v7 m c v)
  unfold blogit Spec.logits
  refine congr (congr (congrArg Spec.logit (funext fun o => congr (congrArg Spec.hidden (funext fun k => ?_)) (e2 o))) (funext fun o => e3 o v)) (e4 v)
  unfold btap Spec.tap
  exact Finset.sum_congr rfl fun i _ => congr (congrArg _ (iblk0 m c t _ _ i)) (e1 k i o)

/-! ## The arrays after the kernel -/

/-- The first array after the kernel. -/
def lg (c : Dev nD) : Buf (Elt Ideal) ((c : Thread nD τ).loc main_v8_0) := fun (j : S4x4096x65.Idx) =>
  Spec.logits (m ((c : Thread nD τ).loc main_arg0)) (m ((c : Thread nD τ).loc main_arg1)) (m ((c : Thread nD τ).loc main_arg2))
    (m ((c : Thread nD τ).loc main_arg3)) (m ((c : Thread nD τ).loc main_arg4)) (j 0) ((j 1).val / 64) ((j 1).val % 64) (j 2)

/-- The second array after the kernel. -/
def pr (c : Dev nD) : Buf (Elt Ideal) ((c : Thread nD τ).loc main_v8_1) := fun (j : S4x4096x64.Idx) =>
  Spec.soft (Spec.logits (m ((c : Thread nD τ).loc main_arg0)) (m ((c : Thread nD τ).loc main_arg1)) (m ((c : Thread nD τ).loc main_arg2))
    (m ((c : Thread nD τ).loc main_arg3)) (m ((c : Thread nD τ).loc main_arg4)) (j 0) ((j 1).val / 64) ((j 1).val % 64))
    ⟨(j 2).val, Nat.lt_of_lt_of_le (j 2).isLt (by decide)⟩

theorem hz1 : (![0, 0, 0] : Fin 3 → ℕ) = fun _ => 0 := funext fun a => by fin_cases a <;> rfl

theorem arr5 (c : Dev nD) : (dats m 0 c).arrAt 5 cfg0.N = lg m c := by
  refine (dats m 0 c).arrAt_eq_of_covers 5 _ (by decide +kernel) fun t hf y => ?_
  idx_vars y
  obtain rfl : y0 = 0 := Subsingleton.elim _ _
  blk_simp
  rw [after0_5]
  unfold out0_5
  rw [View.canon_unit_zero hz1, emb5]
  refine (pay9_apply _ _ _ _ _ y1 y2).trans ?_
  rw [blogit_eq]
  rfl

theorem arr6 (c : Dev nD) : (dats m 0 c).arrAt 6 cfg0.N = pr m c := by
  refine (dats m 0 c).arrAt_eq_of_covers 6 _ (by decide +kernel) fun t hf y => ?_
  idx_vars y
  obtain rfl : y0 = 0 := Subsingleton.elim _ _
  blk_simp
  rw [after0_6]
  unfold out0_6
  rw [View.canon_unit_zero hz1, emb6]
  refine (pay1_apply _ _ _ _ _ y1 y2).trans ?_
  rw [blogit_eq]
  rfl

end Cert.KernelIdeal.Block

end

end
-- ==== Proof.KRun.lean ====
module

public import proofs.«01_k».proof.Proof.KArrays
public import Idealize.ShloMosaic.Lib.Pipeline.RegionsLoop
public import Idealize.ShloMosaic.Lib.StableHlo.RunLoop

/-!
# The run of the whole program

Host lines, the kernel's region, host lines, the loop of rounds, host lines: as segments. The number of
rounds is a parameter `n`; the run asks that the loop's condition holds before the rounds `k < n` and
fails at `n`.
-/

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat CSeg Ticket ucRefs sub_ucRefs)
open Idealize.ShloMosaic.StableHlo (after afterL atTrip held Plain segsOf loopSeg LoopCond)
open Cert.KernelIdeal Cert.KernelIdeal.Gen

abbrev UU : Type := UR sig nD τ

local notation "𝕄" => MT nD τ sig Unit (Elt Ideal) ℕ UU ℕ

variable (m : (ℓ : Loc nD τ sig) → Buf (Elt Ideal) ℓ)

/-- Nothing is prefetched. -/
abbrev adm : (p : Fin 1) → (pcfgs (F := Ideal) p).Adm := fun p => (cfgs p).toPCfg_adm
abbrev 𝒱₀ : Variants := Variants.none
abbrev L : GSem nD τ sig → Finset Unit := fun _ => ∅
abbrev lv : GSem nD τ sig → Unit → ℕ := fun _ _ => 0

/-- The one entry of the one region. -/
abbrev tk : Unit → Ticket (Ix := Unit) (Name := ℕ) (U := UU) (Lvl := ℕ) (nD := nD) (τ := τ) (pcfgs (F := Ideal)) adm := fun _ =>
  { p := 0, pdats := dats m, EP := emb₁ }

/-- What rides along: the core owes nothing. -/
abbrev Rw (c : Dev nD) : sProp 𝕄 := iprop(∃ W, owes (c : Thread nD τ) (0 : CellTallies nD τ sig Unit) W)

/-! ## The lists and the contents at each boundary -/

abbrev preI : List (List (HloOp τ sig (Elt Ideal))) := [hostOps0, hostOps0_1, hostOps0_2]
abbrev midI : List (List (HloOp τ sig (Elt Ideal))) := [hostOps1, hostOps1_1, hostOps1_2, hostOps1_3, hostOps1_4]
abbrev bodyI : List (List (HloOp τ sig (Elt Ideal))) := [while0Ops0]
abbrev postI : List (List (HloOp τ sig (Elt Ideal))) := [hostOps1_5, hostOps1_6, hostOps1_7]
abbrev condOps : List (HloOp τ sig (Elt Ideal)) :=
  [ StableHlo.nullary main_while0c_cst_20 (constant (F := Ideal) S_ .f32 0x00000000#32),
    StableHlo.binary main_v64_3 main_while0c_cst_20 main_while0c_v93 (cmpf (F := Ideal) (φ := .f32) .ogt : (⟨S_, .f32⟩ : BufTy).Contents (Elt Ideal) → (⟨S_, .f32⟩ : BufTy).Contents (Elt Ideal) → (⟨S_, .i1⟩ : BufTy).Contents (Elt Ideal)) ]

theorem hpre : Plain preI := .cons hostOps0_sub (.cons hostOps0_1_sub (.cons hostOps0_2_sub .nil))
theorem hmid : Plain midI := .cons hostOps1_sub (.cons hostOps1_1_sub (.cons hostOps1_2_sub (.cons hostOps1_3_sub (.cons hostOps1_4_sub .nil))))
theorem hbodyI : Plain bodyI := .cons while0Ops0_sub .nil
theorem hpost : Plain postI := .cons hostOps1_5_sub (.cons hostOps1_6_sub (.cons hostOps1_7_sub .nil))

/-- At launch; after the region; where the loop is entered; before round `k`; at the end. -/
abbrev W0 (c : Dev nD) : Valuation τ sig (Elt Ideal) := fun b => m (c, b)
def mid (c : Dev nD) : Valuation τ sig (Elt Ideal) :=
  Pipeline.withArrays spec0 c (V0 m c) fun w => (dats m 0 c).arrAt w cfg0.N
def ent (c : Dev nD) : Valuation τ sig (Elt Ideal) := afterL midI (mid m c)
def rnd (k : ℕ) (c : Dev nD) : Valuation τ sig (Elt Ideal) := atTrip condOps bodyI (ent m) k c
def out (n : ℕ) (c : Dev nD) : Valuation τ sig (Elt Ideal) := after condOps (rnd m n c)
def fin (n : ℕ) (c : Dev nD) : Valuation τ sig (Elt Ideal) := afterL postI (out m n c)

/-! ## The region -/

set_option backward.isDefEq.respectTransparency.types false in
def reg : Pipeline.RegionSeg (pcfgs (F := Ideal)) adm (dats m) () defs₀ 𝒱₀ L lv 0 where
  win := (launch0).win.to₀
  block_pos := (launch0).block_pos
  stage_whole := (launch0).stage_whole
  K := PEmpty
  osem k := k.elim
  ho := Pipeline.OwnSemFacts.none _
  hbody c := (body_obligation m c).loose
  hwaits := Pipeline.hwaits_of_owed_zero _ _ _ _ L lv 0 fun _ _ => rfl
  pre c := iprop(held (c : Thread nD τ) (ucRefs τ sig) (V0 m c) ∗ Rw c)
  post c := iprop(held (c : Thread nD τ) (ucRefs τ sig) (mid m c) ∗ Rw c)
  X _ := BI.emp
  Y _ := BI.emp
  Z c := iprop(Pipeline.unscopedRest (Ix := Unit) (Name := ℕ) (U := UU) (Lvl := ℕ) spec0 c (V m c))
  hentry c := by
    rw [Pipeline.ownSems0_none, ← Pipeline.unscopedBufs_held c (V0 m c)]
    have hsplit := Pipeline.arrays_of_unscopedBufs (p := 0) (pcfgs (F := Ideal)) adm (dats m) (launch0).win (launch0).arr_whole c
      ((dats m 0 c).share_full fun _ => rfl) (V m c) fun w => A_eq m c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UU) (Lvl := ℕ) (Val := Elt Ideal) spec0 c from by dsimp only [dats]]
    iintro ⟨-, -, Hr⟩; iexact Hr
  hout c := by
    rw [Pipeline.ownSems0_none, show (dats m 0 c).Φ (Fin.last _) = Pipeline.scopedRest (Ix := Unit) (Name := ℕ) (U := UU) (Lvl := ℕ) (Val := Elt Ideal) spec0 c from by dsimp only [dats]]
    iintro Hr
    isplitr; · iempintro
    isplitr; · iempintro
    iexact Hr
  hexit c := by
    rw [← Pipeline.unscopedBufs_held c (mid m c)]
    have hjoin := Pipeline.unscopedBufs_of_arrays (p := 0) (pcfgs (F := Ideal)) adm (Ix := Unit) (Name := ℕ) (U := UU) (Lvl := ℕ) (launch0).win (launch0).arr_whole c
      (dats m) ((dats m 0 c).share_full fun _ => rfl) (V m c) (fun b => mid m c (Proc.devRef .tc b)) ((dats m 0 c).arrAt · cfg0.N)
      (fun w => (Pipeline.withArrays_arr spec0 (by decide) c (V0 m c) (fun w => (dats m 0 c).arrAt w cfg0.N) w).symm)
      (fun b hb => Pipeline.withArrays_of_ne spec0 c (V0 m c) (fun w => (dats m 0 c).arrAt w cfg0.N) b fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The loop's condition -/

/-- The condition holds before the rounds `k < n` and fails at `n`. -/
def Stops (n : ℕ) : Prop := ∀ k ≤ n, ∀ c : Dev nD,
  Iff (FloatOps.cmpf (F := Ideal) (φ := .f32) .ogt ((rnd m k c (Proc.devRef .tc main_v64_3) : S_.Idx → EReal) HostLoop.idx0) (FloatOps.ofBits (F := Ideal) .f32 0x00000000#32) = 1#1) (k < n)

set_option backward.isDefEq.respectTransparency.types false in
theorem cond_spec (n : ℕ) (hn : Stops m n) : LoopCond (pcfgs (F := Ideal)) defs₀ 𝒱₀ loops Rw (main_while0_cond (F := Ideal)) condOps bodyI (ent m) n := by
  intro k hk c bd
  have h0 := hn k hk c
  unfold main_while0_cond
  rw [wp_bind]
  iintro ⟨Hb, Hh, HR⟩
  iapply (StableHlo.wp_hlo_within (Variants.lift 𝒱₀) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift 𝒱₀) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (FloatOps.cmpf (F := Ideal) (φ := .f32) .ogt (HloOp.result _ (atTrip condOps bodyI (ent m) k c) main_v64_3 HostLoop.idx0)
        (HloOp.result _ (atTrip condOps bodyI (ent m) k c) main_while0c_cst_20 HostLoop.idx0) = 1#1) (k < n)
    rw [StableHlo.nullary_result_ne _ _ _ _ (by decide), StableHlo.nullary_result]
    exact h0
  isplitl [Hb]; · iexact Hb
  isplitl [Hh]; · rw [StableHlo.after_cons, StableHlo.after_cons, StableHlo.after_nil]; iexact Hh
  iexact HR

/-! ## The segments -/

abbrev KSeg : Type 1 := CSeg (pcfgs (F := Ideal)) adm defs₀ 𝒱₀ L lv loops (tk m)

def segs (n : ℕ) (hn : Stops m n) : List (KSeg m) :=
  segsOf _ _ _ _ _ _ _ _ Rw preI hpre (W0 m)
    ++ (CSeg.region _ _ () (cellOf_inj) _ _ _ _ _ _ () (reg m)
      :: (segsOf _ _ _ _ _ _ _ _ Rw midI hmid (mid m)
        ++ (loopSeg _ _ _ _ _ _ _ _ 0 (main_while0_cond (F := Ideal)) (main_while0_body (F := Ideal)) rfl condOps bodyI hbodyI
              (by rw [while0_body_chain]; rfl) n (ent m) Rw (cond_spec m n hn)
          :: segsOf _ _ _ _ _ _ _ _ Rw postI hpost (out m n))))

theorem segs_prog (n : ℕ) (hn : Stops m n) : (segs m n hn).map CSeg.prog
    = (preI.map fun ops => (StableHlo.seq ops : Prog _ PUnit)) ++ (Prog.lift (.customCall (HostLoop.inner (Pipeline.entry 0)) ())
      :: ((midI.map fun ops => (StableHlo.seq ops : Prog _ PUnit)) ++ (HostLoop.enter 0 :: postI.map fun ops => (StableHlo.seq ops : Prog _ PUnit)))) := by
  unfold segs
  rw [List.map_append, List.map_cons, List.map_append, List.map_cons, StableHlo.segsOf_prog, StableHlo.segsOf_prog, StableHlo.segsOf_prog]
  rfl

theorem main_run (n : ℕ) (hn : Stops m n) (c : Dev nD) : main (F := Ideal) c = CSeg.runL (segs m n hn) := by
  refine (main_chain c).trans ?_
  show _ = Pipeline.chain ((segs m n hn).map CSeg.prog)
  rw [segs_prog]
  rfl

theorem segs_chains (n : ℕ) (hn : Stops m n) :
    CSeg.Chains (fun c => iprop(held (c : Thread nD τ) (ucRefs τ sig) (W0 m c) ∗ Rw c)) (segs m n hn)
      (fun c => iprop(iprop(held (c : Thread nD τ) (ucRefs τ sig) (fin m n c)) ∗ Rw c)) := by
  unfold segs
  refine CSeg.Chains.append (StableHlo.segsOf_chains _ _ _ _ _ _ _ _ Rw preI hpre _) ⟨fun c => ?_, ?_⟩
  · show iprop(held (c : Thread nD τ) (ucRefs τ sig) (afterL preI (W0 m c)) ∗ Rw c) ⊢ iprop(held (c : Thread nD τ) (ucRefs τ sig) (V0 m c) ∗ Rw c)
    rw [StableHlo.afterL_eq_after_flatten]
  · exact CSeg.Chains.append (StableHlo.segsOf_chains _ _ _ _ _ _ _ _ Rw midI hmid (mid m))
      ⟨fun _ => .rfl, StableHlo.segsOf_chains _ _ _ _ _ _ _ _ Rw postI hpost (out m n)⟩

theorem segs_disjoint (n : ℕ) (hn : Stops m n) : (segs m n hn).Pairwise fun s s' => Disjoint s.T s'.T := by
  have hE : ∀ (items : List (List (HloOp τ sig (Elt Ideal)))) h V, ∀ s ∈ segsOf (pcfgs (F := Ideal)) adm defs₀ 𝒱₀ L lv loops (tk m) Rw items h V, s.T = ∅ :=
    fun items h V s hs => (StableHlo.segsOf_M_T _ _ _ _ _ _ _ _ Rw items h V s hs).2
  unfold segs
  refine List.pairwise_append.mpr ⟨CSeg.pairwise_disjoint_of_T_empty _ (hE _ _ _), List.pairwise_cons.mpr ⟨fun s hs => ?_, ?_⟩, fun s hs s' _ => ?_⟩
  · have : s.T = ∅ := by
      rcases List.mem_append.mp hs with h | h
      · exact hE _ _ _ s h
      · rcases List.mem_cons.mp h with rfl | h
        · exact StableHlo.loopSeg_T ..
        · exact hE _ _ _ s h
    rw [this]; exact Finset.disjoint_empty_right _
  · refine CSeg.pairwise_disjoint_of_T_empty _ fun s hs => ?_
    rcases List.mem_append.mp hs with h | h
    · exact hE _ _ _ s h
    · rcases List.mem_cons.mp h with rfl | h
      · exact StableHlo.loopSeg_T ..
      · exact hE _ _ _ s h
  · rw [hE _ _ _ s hs]; exact Finset.disjoint_empty_left _

/-! ## The launch -/

set_option backward.isDefEq.respectTransparency.types false in
/-- Every unscoped buffer ends at the fold, and every semaphore at zero. -/
theorem run (g : Dev nD → PrngReg) (n : ℕ) (hn : Stops m n) : θ_run defs (onTc (τ := τ) (main (F := Ideal))) ⟨m, fun _ => 0, g⟩
    (fun r => (∀ (c : Dev nD) (b : Ref sig .tc), (Proc.devRef .tc b : DevRef τ sig).isScoped = false →
        r.2.mem ((c : Thread nD τ).loc b) = fin m n c (Proc.devRef .tc b)) ∧ r.2.sem = fun _ => 0) :=
  Pipeline.θ_run_regions_loop_kit_sems (pcfgs (F := Ideal)) adm cellOf_inj defs₀ 𝒱₀ L lv loops (tk m) m g main (segs m n hn)
    (fun c Q => by rw [main_run m n hn c]) (segs_disjoint m n hn)
    (O₀ := 0) (hL := fun _ _ => rfl) (G := fun _ => iprop(emp))
    (u₀ := Rounds.initOf (Pipeline.cells (Pipeline.pin (pcfgs (F := Ideal)) adm) cellOf_inj) (Pipeline.launchToks (Pipeline.pin (pcfgs (F := Ideal)) adm) cellOf_inj))
    (hu₀ := by
      iintro Hu
      imodintro
      isplitl [Hu]
      · rw [show (Finset.univ : Finset Unit) = {()} from rfl, BI.bigSep_singleton]
        iapply (show (ownU _ : sProp 𝕄) ⊢ BI.own (emb₁ _) from .rfl)
        iexact Hu
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (W0 m c) ∗ Rw c))
    (Tₙ := fun c => iprop(held (c : Thread nD τ) (ucRefs τ sig) (fin m n c)))
    (hch := segs_chains m n hn)
    (hinit := by
      refine Pipeline.initEach L lv fun c => ?_
      rw [show unscopedBufs c (fun b => m ((c : Thread nD τ).loc b)) = held (c : Thread nD τ) (ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m n c b)
    (hfin := fun c s' => by
      unfold held
      iintro ⟨Hh, HSI⟩
      ihave Hr := (pointsTo_read_all (ucRefs τ sig) (fun b => ((c : Dev nD), b)) (fun b => fin m n c b) s') $$ [Hh HSI]
      · isplitl [Hh] <;> iassumption
      icases Hr with ⟨%h, HSI⟩
      imodintro
      isplitr; · ipureintro; exact h
      iexact HSI)
    (hQ := fun s h hs => ⟨fun c b hb => h c _ (StableHlo.devRef_mem_ucRefs b hb), sem_eq_zero_of_scoped (by decide) hs⟩)

end Cert.KernelIdeal.Run

end

end
-- ==== Proof.TopK.lean ====
module

public import Idealize.ShloMosaic.Lib.Pipeline.ValueKit
public import Idealize.ShloMosaic.Lib.SortFacts

/-! # What the largest entries of a row are

The first entries of a row sorted stably, larger first: the chosen entries never increase, and equal ones come in the order
of their positions. -/

@[expose] public section

noncomputable section

namespace Cert.TopK

open Idealize.ShloMosaic

section stable
variable {n : ℕ} (f : Fin n → EReal)

/-- Larger first, equal ones in the order of their positions. -/
def Lex (a b : Fin n) : Prop := f b < f a ∨ (f a = f b ∧ a < b)

/-- The strict comparison the sort runs. -/
def bef (a b : Fin n) : Bool := decide (f b < f a)

theorem insert_lex (a : Fin n) (l : List (Fin n)) (hl : l.Pairwise (Lex f)) (ha : ∀ b ∈ l, a < b) :
    (insertBefore (bef f) a l).Pairwise (Lex f) := by
  induction l with
  | nil => exact List.pairwise_singleton _ _
  | cons b l ih =>
    rw [List.pairwise_cons] at hl
    unfold insertBefore
    split
    · rename_i h
      have h' : f a < f b := of_decide_eq_true h
      refine List.pairwise_cons.mpr ⟨fun c hc => ?_, ih hl.2 fun c hc => ha c (List.mem_cons_of_mem _ hc)⟩
      rcases List.mem_cons.mp ((perm_insertBefore _ a l).mem_iff.mp hc) with rfl | hc'
      · exact Or.inl h'
      · exact hl.1 c hc'
    · rename_i h
      have h' : f b ≤ f a := not_lt.mp fun h2 => h (decide_eq_true h2)
      have hle : ∀ c ∈ b :: l, f c ≤ f b := by
        intro c hc
        rcases List.mem_cons.mp hc with rfl | hc'
        · exact le_rfl
        · rcases hl.1 c hc' with h3 | h3
          · exact h3.le
          · exact h3.1.ge
      refine List.pairwise_cons.mpr ⟨fun c hc => ?_, List.pairwise_cons.mpr hl⟩
      rcases (le_trans (hle c hc) h').lt_or_eq with h3 | h3
      · exact Or.inl h3
      · exact Or.inr ⟨h3.symm, ha c hc⟩

theorem stable_lex (l : List (Fin n)) (hl : l.Pairwise (· < ·)) : (stableSort (bef f) l).Pairwise (Lex f) := by
  induction l with
  | nil => exact List.Pairwise.nil
  | cons a l ih =>
    rw [List.pairwise_cons] at hl
    unfold stableSort
    exact insert_lex f a _ (ih hl.2) fun b hb => hl.1 b ((perm_stableSort _ l).mem_iff.mp hb)

theorem sorted_lex (i j : Fin n) (hij : i < j) : Lex f (sortedFrom (bef f) i) (sortedFrom (bef f) j) := by
  have hp : ∀ a b : Fin (sortPositions n (bef f)).length, a < b →
      Lex f ((sortPositions n (bef f)).get a) ((sortPositions n (bef f)).get b) :=
    List.pairwise_iff_get.mp (stable_lex f (List.finRange n) (List.pairwise_lt_finRange n))
  unfold sortedFrom
  exact hp _ _ (by simp only [Fin.lt_def, Fin.val_cast]; exact hij)

end stable

section pick
variable {n : ℕ} (hn : 1024 ≤ n) (f : Fin n → EReal)

/-- The position of a row's `i`-th largest entry. -/
def pick (i : Fin 1024) : Fin n := sortedFrom (bef f) ⟨i.val, lt_of_lt_of_le i.isLt hn⟩

theorem pick_injective : Function.Injective (pick hn f) := by
  intro i j h
  have h1 := sortedFrom_injective _ h
  have h2 : i.val = j.val := by simpa using h1
  exact Fin.ext h2

theorem pick_lex (i j : Fin 1024) (h : i < j) : Lex f (pick hn f i) (pick hn f j) := sorted_lex f _ _ h

/-- One candidate comes before another in the sort's order exactly when its number is smaller. -/
theorem pick_lex_iff (j i : Fin 1024) : Lex f (pick hn f j) (pick hn f i) ↔ j < i := by
  constructor
  · intro h
    rcases lt_trichotomy j i with h1 | h1 | h1
    · exact h1
    · subst h1; rcases h with h | h
      · exact absurd h (lt_irrefl _)
      · exact absurd h.2 (lt_irrefl _)
    · rcases pick_lex hn f i j h1 with h2 | h2 <;> rcases h with h | h
      · exact absurd (h.trans h2) (lt_irrefl _)
      · rw [h.1] at h2; exact absurd h2 (lt_irrefl _)
      · rw [h2.1] at h; exact absurd h (lt_irrefl _)
      · exact absurd (h.2.trans h2.2) (lt_irrefl _)
  · exact pick_lex hn f j i

end pick

/-- The position, in a heat row, of the `i`-th largest entry. -/
def pos (x : (⟨2, ![4, 262144]⟩ : Shape).Idx → EReal) (b : Fin 4) (i : Fin 1024) : Fin 262144 := pick (by decide) (fun k => x (ix2 b k)) i

/-- … and its value. -/
def val (x : (⟨2, ![4, 262144]⟩ : Shape).Idx → EReal) (b : Fin 4) (i : Fin 1024) : EReal := x (ix2 b (pos x b i))

theorem pos_injective (x : (⟨2, ![4, 262144]⟩ : Shape).Idx → EReal) (b : Fin 4) : Function.Injective (pos x b) :=
  pick_injective (by decide) fun k => x (ix2 b k)

theorem lex_iff (x : (⟨2, ![4, 262144]⟩ : Shape).Idx → EReal) (b : Fin 4) (j i : Fin 1024) :
    (val x b i < val x b j ∨ (val x b j = val x b i ∧ pos x b j < pos x b i)) ↔ j < i :=
  pick_lex_iff (n := 262144) (by decide) (fun k => x (ix2 b k)) j i

theorem along_ix2 {n : ℕ} (b : Fin 4) (k k' : Fin n) :
    (ix2 b k : (⟨2, ![4, n]⟩ : Shape).Idx).along (1 : Fin 2) k' = ix2 b k' := by
  funext a
  unfold Shape.Idx.along
  match a with
  | ⟨0, h⟩ => exact Function.update_of_ne (show (⟨0, h⟩ : Fin 2) ≠ 1 from fun e => absurd (congrArg Fin.val e) Nat.zero_ne_one) _ _
  | ⟨1, _⟩ => exact Function.update_self _ _ _

theorem gt_iff (a b : EReal) : (FloatOps.cmpfTotal (F := Ideal) (φ := .f32) .gt a b == 1#1) = decide (b < a) := by
  show (BitVec.ofBool (decide (b < a)) == 1#1) = _
  cases decide (b < a) <;> rfl

theorem sort2_fst {n : ℕ} {β : Type} (x : (⟨2, ![4, n]⟩ : Shape).Idx → EReal) (y : (⟨2, ![4, n]⟩ : Shape).Idx → β) (b : Fin 4) (k : Fin n) :
    (Host.sort2 ⟨2, ![4, n]⟩ 1 (fun l r => FloatOps.cmpfTotal (F := Ideal) (φ := .f32) .gt l.1 r.1) x y).1 (ix2 b k)
      = x (ix2 b (sortedFrom (bef fun k => x (ix2 b k)) k)) := by
  unfold Host.sort2
  rw [dif_pos (show 1 < 2 from by decide)]
  refine (congrArg x (along_ix2 b k _)).trans (congrArg (fun F : Fin n → Fin n → Bool => x (ix2 b (sortedFrom F k))) ?_)
  funext k' k''
  refine (congrArg₂ (fun p q => FloatOps.cmpfTotal (F := Ideal) (φ := .f32) .gt p q == 1#1) (congrArg x (along_ix2 b k k')) (congrArg x (along_ix2 b k k''))).trans ?_
  exact gt_iff _ _

theorem sort2_snd {n : ℕ} {β : Type} (x : (⟨2, ![4, n]⟩ : Shape).Idx → EReal) (y : (⟨2, ![4, n]⟩ : Shape).Idx → β) (b : Fin 4) (k : Fin n) :
    (Host.sort2 ⟨2, ![4, n]⟩ 1 (fun l r => FloatOps.cmpfTotal (F := Ideal) (φ := .f32) .gt l.1 r.1) x y).2 (ix2 b k)
      = y (ix2 b (sortedFrom (bef fun k => x (ix2 b k)) k)) := by
  unfold Host.sort2
  rw [dif_pos (show 1 < 2 from by decide)]
  refine (congrArg y (along_ix2 b k _)).trans (congrArg (fun F : Fin n → Fin n → Bool => y (ix2 b (sortedFrom F k))) ?_)
  funext k' k''
  refine (congrArg₂ (fun p q => FloatOps.cmpfTotal (F := Ideal) (φ := .f32) .gt p q == 1#1) (congrArg x (along_ix2 b k k')) (congrArg x (along_ix2 b k k''))).trans ?_
  exact gt_iff _ _

theorem slice_ix2 {α : Type} {n : ℕ} (x : (⟨2, ![4, n]⟩ : Shape).Idx → α) (hs : (⟨2, ![4, n]⟩ : Shape).Slices (fun _ => 0) ⟨2, ![4, 1024]⟩)
    (b : Fin 4) (i : Fin 1024) (h : i.val < n) :
    extractStridedSlice ⟨2, ![4, 1024]⟩ (fun _ => 0) x hs (ix2 b i) = x (ix2 b ⟨i.val, h⟩) := by
  unfold extractStridedSlice
  congr 1
  funext a
  match a with
  | ⟨0, _⟩ => exact Fin.ext (Nat.zero_add _)
  | ⟨1, _⟩ => exact Fin.ext (Nat.zero_add _)

section top
variable {n : ℕ} (hn : 1024 ≤ n) (x : (⟨2, ![4, n]⟩ : Shape).Idx → EReal) (hs : (⟨2, ![4, n]⟩ : Shape).Slices (fun _ => 0) ⟨2, ![4, 1024]⟩)
include hn

theorem topK_fst (b : Fin 4) (i : Fin 1024) :
    (Host.topK ⟨2, ![4, 1024]⟩ 1 (FloatOps.cmpfTotal (F := Ideal) (φ := .f32) .gt) x hs).1 (ix2 b i) = x (ix2 b (pick hn (fun k => x (ix2 b k)) i)) := by
  unfold Host.topK
  dsimp only
  refine (slice_ix2 _ hs b i (lt_of_lt_of_le i.isLt hn)).trans ?_
  exact sort2_fst x _ b _

theorem topK_snd (b : Fin 4) (i : Fin 1024) :
    (Host.topK ⟨2, ![4, 1024]⟩ 1 (FloatOps.cmpfTotal (F := Ideal) (φ := .f32) .gt) x hs).2 (ix2 b i)
      = BitVec.ofNat 32 (pick hn (fun k => x (ix2 b k)) i).val := by
  unfold Host.topK
  dsimp only
  refine (slice_ix2 _ hs b i (lt_of_lt_of_le i.isLt hn)).trans ?_
  refine (sort2_snd x _ b _).trans ?_
  rfl

end top

theorem topK_val (x : (⟨2, ![4, 262144]⟩ : Shape).Idx → EReal) (hs) (b : Fin 4) (i : Fin 1024) :
    (Host.topK ⟨2, ![4, 1024]⟩ 1 (FloatOps.cmpfTotal (F := Ideal) (φ := .f32) .gt) x hs).1 (ix2 b i) = val x b i :=
  topK_fst (n := 262144) (by decide) x hs b i

theorem topK_pos (x : (⟨2, ![4, 262144]⟩ : Shape).Idx → EReal) (hs) (b : Fin 4) (i : Fin 1024) :
    (Host.topK ⟨2, ![4, 1024]⟩ 1 (FloatOps.cmpfTotal (F := Ideal) (φ := .f32) .gt) x hs).2 (ix2 b i) = BitVec.ofNat 32 (pos x b i).val :=
  topK_snd (n := 262144) (by decide) x hs b i

end Cert.TopK

end

end
-- ==== Proof.Greedy.lean ====
module

public import Idealize.ShloMosaic.Lib.Pipeline.ValueKit

/-! # Greedy selection, one item after another and in rounds

A list of candidates in order, some of them valid, and a relation `O j i`: the earlier candidate `j` overlaps the later
candidate `i`. A candidate is kept when it is valid and no kept earlier one overlaps it. The same set comes out of rounds
that decide at once every candidate whose earlier overlapping candidates are decided. -/

@[expose] public section

namespace Cert.Greedy

variable {N : ℕ} (valid : Fin N → Prop) (O : Fin N → Fin N → Prop)

/-- Kept: valid, and overlapped by no kept earlier candidate. -/
def kept (i : Fin N) : Prop := valid i ∧ ∀ j : Fin N, (_h : j < i) → O j i → ¬ kept j
termination_by i.val
decreasing_by exact _h

theorem kept_iff (i : Fin N) : kept valid O i ↔ valid i ∧ ∀ j : Fin N, j < i → O j i → ¬ kept valid O j := by
  conv_lhs => rw [kept]

/-- A round's newly kept candidates. -/
def newKept (K U : Fin N → Prop) (i : Fin N) : Prop := U i ∧ (¬ ∃ j, K j ∧ O j i) ∧ ¬ ∃ j, U j ∧ O j i

/-- A round's newly suppressed candidates. -/
def newSup (K U : Fin N → Prop) (i : Fin N) : Prop := U i ∧ ∃ j, K j ∧ O j i

/-- The candidates kept, and those undecided, after `k` rounds. -/
def state : ℕ → (Fin N → Prop) × (Fin N → Prop)
  | 0 => (fun _ => False, valid)
  | k + 1 => (fun i => (state k).1 i ∨ newKept O (state k).1 (state k).2 i,
      fun i => (state k).2 i ∧ ¬ newSup O (state k).1 (state k).2 i ∧ ¬ newKept O (state k).1 (state k).2 i)

theorem state_kept (hO : ∀ j i, O j i → j < i) (k : ℕ) :
    (∀ i, (state valid O k).1 i → kept valid O i) ∧ (∀ i, (state valid O k).2 i → valid i)
      ∧ (∀ i, (state valid O k).1 i → ¬ (state valid O k).2 i)
      ∧ ∀ i, ¬ (state valid O k).1 i → ¬ (state valid O k).2 i → ¬ kept valid O i := by
  induction k with
  | zero =>
    refine ⟨fun i h => h.elim, fun i h => h, fun i h => h.elim, fun i _ h hk => h ((kept_iff valid O i).1 hk).1⟩
  | succ k ih =>
    obtain ⟨hK, hU, hd, hn⟩ := ih
    refine ⟨fun i h => ?_, fun i h => hU i h.1, fun i h h' => ?_, fun i h1 h2 hk => ?_⟩
    · rcases h with h | ⟨hu, h1, h2⟩
      · exact hK i h
      · refine (kept_iff valid O i).2 ⟨hU i hu, fun j _ hj => ?_⟩
        exact hn j (fun hKj => h1 ⟨j, hKj, hj⟩) fun hUj => h2 ⟨j, hUj, hj⟩
    · rcases h with h | h
      · exact hd i h h'.1
      · exact h'.2.2 h
    · by_cases hu : (state valid O k).2 i
      · by_cases hs : newSup O (state valid O k).1 (state valid O k).2 i
        · obtain ⟨_, j, hj, hji⟩ := hs
          exact ((kept_iff valid O i).1 hk).2 j (hO j i hji) hji (hK j hj)
        · exact h2 ⟨hu, hs, fun hnk => h1 (Or.inr hnk)⟩
      · exact hn i (fun h => h1 (Or.inl h)) hu hk

/-- After `k` rounds the first `k` candidates are decided. -/
theorem le_of_undecided (hO : ∀ j i, O j i → j < i) (k : ℕ) : ∀ i, (state valid O k).2 i → k ≤ i.val := by
  induction k with
  | zero => intro i _; exact Nat.zero_le _
  | succ k ih =>
    rintro i ⟨hu, hs, hk⟩
    refine lt_of_le_of_ne (ih i hu) fun he => hk ⟨hu, fun ⟨j, hj⟩ => hs ⟨hu, j, hj⟩, ?_⟩
    rintro ⟨j, hj, hji⟩
    have h1 := ih j hj
    have h2 : j.val < i.val := hO j i hji
    omega

/-- When nothing is undecided, what the rounds kept is what is kept. -/
theorem state_final (hO : ∀ j i, O j i → j < i) (k : ℕ) (h : ∀ i, ¬ (state valid O k).2 i) (i : Fin N) :
    (state valid O k).1 i ↔ kept valid O i := by
  obtain ⟨hK, -, -, hn⟩ := state_kept valid O hO k
  exact ⟨hK i, fun hk => by_contra fun hne => hn i hne (h i) hk⟩

/-- Suppressed by the first `k` kept candidates. -/
def sup (k : ℕ) (j : Fin N) : Prop := ∃ i : Fin N, i.val < k ∧ kept valid O i ∧ O i j

theorem sup_zero (j : Fin N) : ¬ sup valid O 0 j := fun ⟨_, h, _⟩ => absurd h (Nat.not_lt_zero _)

theorem sup_succ (k : Fin N) (j : Fin N) : sup valid O (k.val + 1) j ↔ sup valid O k.val j ∨ (kept valid O k ∧ O k j) := by
  constructor
  · rintro ⟨i, hi, hk, ho⟩
    rcases Nat.lt_succ_iff_lt_or_eq.1 hi with h | h
    · exact Or.inl ⟨i, h, hk, ho⟩
    · obtain rfl := Fin.ext h; exact Or.inr ⟨hk, ho⟩
  · rintro (⟨i, hi, hk, ho⟩ | ⟨hk, ho⟩)
    · exact ⟨i, Nat.lt_succ_of_lt hi, hk, ho⟩
    · exact ⟨k, Nat.lt_succ_self _, hk, ho⟩

theorem kept_iff_sup (k : Fin N) (hO : ∀ j i, O j i → j < i) : kept valid O k ↔ ¬ sup valid O k.val k ∧ valid k := by
  rw [kept_iff]
  constructor
  · rintro ⟨hv, h⟩
    exact ⟨fun ⟨i, hi, hk, ho⟩ => h i hi ho hk, hv⟩
  · rintro ⟨h, hv⟩
    exact ⟨hv, fun j hj ho hk => h ⟨j, hj, hk, ho⟩⟩

end Cert.Greedy

end
-- ==== Proof.Ind.lean ====
module

public import Idealize.ShloMosaic.Lib.Pipeline.ValueKit

/-! # Truth values as the numbers 0 and 1 -/

@[expose] public section

noncomputable section

namespace Cert.Ind

open Idealize.ShloMosaic

open Classical in
/-- One when it holds, zero when not. -/
def ind (p : Prop) : EReal := if p then 1 else 0

theorem ind_true {p : Prop} (h : p) : ind p = 1 := by unfold ind; exact if_pos h
theorem ind_false {p : Prop} (h : ¬ p) : ind p = 0 := by unfold ind; exact if_neg h
theorem ind_congr {p q : Prop} (h : p ↔ q) : ind p = ind q := congrArg ind (propext h)

theorem ind_nonneg (p : Prop) : 0 ≤ ind p := by
  by_cases h : p
  · rw [ind_true h]; exact zero_le_one
  · rw [ind_false h]

theorem ind_mul (p q : Prop) : ind p * ind q = ind (p ∧ q) := by
  by_cases h : p
  · by_cases h' : q
    · rw [ind_true h, ind_true h', ind_true ⟨h, h'⟩, one_mul]
    · rw [ind_false h', ind_false (p := p ∧ q) (fun h3 => h' h3.2), mul_zero]
  · rw [ind_false h, ind_false (p := p ∧ q) (fun h3 => h h3.1), zero_mul]

theorem ind_pos (p : Prop) : 0 < ind p ↔ p := by
  by_cases h : p
  · rw [ind_true h]; exact ⟨fun _ => h, fun _ => zero_lt_one⟩
  · rw [ind_false h]; exact ⟨fun h' => absurd h' (lt_irrefl _), fun h' => absurd h' h⟩

theorem ind_eq_zero (p : Prop) : ind p = 0 ↔ ¬ p := by
  by_cases h : p
  · rw [ind_true h]; exact ⟨fun h' => absurd h' one_ne_zero, fun h' => absurd h h'⟩
  · rw [ind_false h]; exact ⟨fun _ => h, fun _ => rfl⟩

theorem sum_nonneg {ι : Type} [Fintype ι] (p : ι → Prop) : 0 ≤ ∑ j, ind (p j) := Finset.sum_nonneg fun j _ => ind_nonneg (p j)

theorem sum_eq_zero {ι : Type} [Fintype ι] (p : ι → Prop) : ∑ j, ind (p j) = 0 ↔ ¬ ∃ j, p j := by
  rw [Finset.sum_eq_zero_iff_of_nonneg fun j _ => ind_nonneg (p j)]
  constructor
  · rintro h ⟨j, hj⟩
    exact (ind_eq_zero _).1 (h j (Finset.mem_univ j)) hj
  · intro h j _
    exact ind_false fun hj => h ⟨j, hj⟩

theorem sum_pos {ι : Type} [Fintype ι] (p : ι → Prop) : 0 < ∑ j, ind (p j) ↔ ∃ j, p j := by
  constructor
  · intro h
    by_contra hn
    rw [(sum_eq_zero p).2 hn] at h
    exact lt_irrefl _ h
  · intro h
    exact lt_of_le_of_ne (sum_nonneg p) fun he => (sum_eq_zero p).1 he.symm h

open Classical in
/-- A sum of truth values counts. -/
theorem sum_card {ι : Type} [Fintype ι] (p : ι → Prop) : ∑ j, ind (p j) = ((Finset.univ.filter p).card : ℝ) := by
  have h : ∀ s : Finset ι, ∑ j ∈ s, ind (p j) = (((s.filter p).card : ℝ) : EReal) := by
    intro s
    induction s using Finset.induction_on with
    | empty => simp
    | insert a s ha ih =>
      rw [Finset.sum_insert ha, ih, Finset.filter_insert]
      by_cases hp : p a
      · rw [if_pos hp, ind_true hp, Finset.card_insert_of_notMem (fun h => ha (Finset.mem_filter.1 h).1)]
        push_cast
        rw [add_comm]
      · rw [if_neg hp, ind_false hp, zero_add]
  exact h _

theorem uitofp_ofBool (p : Prop) [Decidable p] : (FloatOps.uitofp (F := Ideal) .f32 (BitVec.ofBool (decide p)) : EReal) = ind p := by
  show ((((BitVec.ofBool (decide p)).toNat : ℝ)) : EReal) = _
  by_cases h : p
  · rw [ind_true h, decide_eq_true h]; simp
  · rw [ind_false h, decide_eq_false h]; simp

theorem ind_sub_ind (p q : Prop) (h : q → p) : ind p - ind q = ind (p ∧ ¬ q) := by
  by_cases hp : p
  · by_cases hq : q
    · rw [ind_true hp, ind_true hq, ind_false fun h => h.2 hq]; exact EReal.sub_self (by decide) (by decide)
    · rw [ind_true hp, ind_false hq, ind_true ⟨hp, hq⟩, sub_zero]
  · rw [ind_false hp, ind_false (fun hq => hp (h hq)), ind_false (fun h => hp h.1), sub_zero]

theorem ind_add_ind (p q : Prop) (h : p → ¬ q) : ind p + ind q = ind (p ∨ q) := by
  by_cases hp : p
  · rw [ind_true hp, ind_false (h hp), ind_true (Or.inl hp), add_zero]
  · by_cases hq : q
    · rw [ind_false hp, ind_true hq, ind_true (Or.inr hq), zero_add]
    · rw [ind_false hp, ind_false hq, ind_false (fun h => h.elim hp hq), add_zero]

end Cert.Ind

end

end
-- ==== Proof.Boxes.lean ====
module

public import proofs.«01_k».proof.Proof.Ind
public import Idealize.ShloMosaic.Lib.Routing.Words
public import Idealize.ShloMosaic.Lib.IdealHost

/-! # Rows, columns and overlapping boxes

A candidate at position `p` of a heat row is at row `p / 512` and column `p % 512`. The boxes are squares of side 4 around
whole points, so the overlap of two of them is a product of two numbers among 0, 1, 2, 3, 4, and comparing the ratio of the
overlap to the union with a tenth is comparing the overlap with 3. -/

@[expose] public section

noncomputable section

namespace Cert.Boxes

open Idealize.ShloMosaic

/-! ## Words -/

/-- Rounded-down division of signed words, as printed. -/
def fdiv (x c : BitVec 32) : BitVec 32 :=
  Scalar.select
    (IntOp.andi (IntOp.cmpi .ne (if x = 0 then (0 : BitVec 32) else if BitVec.msb x = true then -1 else 1) (if c = 0 then (0 : BitVec 32) else if BitVec.msb c = true then -1 else 1))
      (IntOp.cmpi .ne (IntOp.remsi ArithUnit.host x c) 0#32))
    (IntOp.subi (IntOp.divsi ArithUnit.host x c) 1#32) (IntOp.divsi ArithUnit.host x c)

/-- The remainder that goes with it, as printed. -/
def fmod (x c : BitVec 32) : BitVec 32 :=
  Scalar.select
    (IntOp.andi (IntOp.cmpi .ne (IntOp.cmpi .slt (IntOp.remsi ArithUnit.host x (Scalar.select (IntOp.cmpi .eq c 0#32) (1#32) c)) 0#32)
        (IntOp.cmpi .slt (Scalar.select (IntOp.cmpi .eq c 0#32) (1#32) c) 0#32))
      (IntOp.cmpi .ne (IntOp.remsi ArithUnit.host x (Scalar.select (IntOp.cmpi .eq c 0#32) (1#32) c)) 0#32))
    (IntOp.addi (IntOp.remsi ArithUnit.host x (Scalar.select (IntOp.cmpi .eq c 0#32) (1#32) c)) (Scalar.select (IntOp.cmpi .eq c 0#32) (1#32) c))
    (IntOp.remsi ArithUnit.host x (Scalar.select (IntOp.cmpi .eq c 0#32) (1#32) c))

theorem ofNat_ne_zero {p : ℕ} (h0 : 0 < p) (h : p < 2 ^ 31) : BitVec.ofNat 32 p ≠ 0 := by
  intro e
  have := congrArg BitVec.toNat e
  rw [BitVec.toNat_ofNat, show (0 : BitVec 32).toNat = 0 from rfl] at this
  omega

theorem msb_ofNat {p : ℕ} (h : p < 2 ^ 31) : BitVec.msb (BitVec.ofNat 32 p) = false := by
  rw [BitVec.msb_eq_decide, decide_eq_false]
  simp only [BitVec.toNat_ofNat]
  omega

theorem fdiv_word {p : ℕ} (hp : p < 262144) : fdiv (BitVec.ofNat 32 p) 512#32 = BitVec.ofNat 32 (p / 512) := by
  unfold fdiv
  rw [show (512#32 : BitVec 32) = BitVec.ofNat 32 512 from rfl, Routing.remsi_word _ (by omega) (by omega) (by omega), Routing.divsi_word _ (by omega) (by omega) (by omega)]
  rw [msb_ofNat (by omega)]
  by_cases h : p = 0
  · subst h; rfl
  · rw [if_neg (ofNat_ne_zero (by omega) (by omega))]
    rw [show IntOp.cmpi .ne (if false = true then (-1 : BitVec 32) else 1) (if (BitVec.ofNat 32 512) = 0 then (0 : BitVec 32) else if BitVec.msb (BitVec.ofNat 32 512) = true then -1 else 1) = 0#1 from rfl]
    rw [show IntOp.andi (0#1) (IntOp.cmpi .ne (BitVec.ofNat 32 (p % 512)) 0#32) = 0#1 from BitVec.zero_and]
    rfl

theorem fmod_word {p : ℕ} (hp : p < 262144) : fmod (BitVec.ofNat 32 p) 512#32 = BitVec.ofNat 32 (p % 512) := by
  unfold fmod
  rw [show Scalar.select (IntOp.cmpi .eq (512#32 : BitVec 32) 0#32) (1#32) (512#32) = BitVec.ofNat 32 512 from rfl, Routing.remsi_word _ (by omega) (by omega) (by omega)]
  have h : IntOp.cmpi .slt (BitVec.ofNat 32 (p % 512)) 0#32 = 0#1 := by
    show BitVec.ofBool (BitVec.slt _ _) = _
    rw [BitVec.slt_zero_eq_msb, msb_ofNat (by omega)]; rfl
  rw [h, show IntOp.cmpi .slt (BitVec.ofNat 32 512) 0#32 = 0#1 from rfl]
  rw [show IntOp.andi (IntOp.cmpi .ne (0#1) (0#1)) (IntOp.cmpi .ne (BitVec.ofNat 32 (p % 512)) 0#32) = 0#1 from by
    show (0#1 : BitVec 1) &&& _ = 0#1; exact BitVec.zero_and]
  rfl

theorem toInt_word {n : ℕ} (h : n < 2 ^ 31) : (BitVec.ofNat 32 n).toInt = (n : ℤ) := by
  rw [BitVec.toInt_eq_toNat_of_msb (msb_ofNat h), BitVec.toNat_ofNat, Nat.mod_eq_of_lt (by omega)]

/-- A word converted to a float is its number. -/
theorem sitofp_word {n : ℕ} (h : n < 2 ^ 31) : (FloatOps.sitofp (F := Ideal) .f32 (BitVec.ofNat 32 n) : EReal) = ((n : ℝ) : EReal) := by
  show (((BitVec.ofNat 32 n).toInt : ℝ) : EReal) = _
  rw [toInt_word h]; simp

theorem slt_word {a b : ℕ} (ha : a < 2 ^ 31) (hb : b < 2 ^ 31) : IntOp.cmpi .slt (BitVec.ofNat 32 a) (BitVec.ofNat 32 b) = BitVec.ofBool (decide (a < b)) := by
  show BitVec.ofBool (decide ((BitVec.ofNat 32 a).toInt < (BitVec.ofNat 32 b).toInt)) = _
  rw [toInt_word ha, toInt_word hb]
  congr 1
  simp

theorem sgt_word {a b : ℕ} (ha : a < 2 ^ 31) (hb : b < 2 ^ 31) : IntOp.cmpi .sgt (BitVec.ofNat 32 a) (BitVec.ofNat 32 b) = BitVec.ofBool (decide (b < a)) := by
  show BitVec.ofBool (decide ((BitVec.ofNat 32 b).toInt < (BitVec.ofNat 32 a).toInt)) = _
  rw [toInt_word ha, toInt_word hb]
  congr 1
  simp

/-! ## Bits -/

theorem andi_ofBool (p q : Bool) : IntOp.andi (BitVec.ofBool p) (BitVec.ofBool q) = BitVec.ofBool (p && q) := by cases p <;> cases q <;> rfl
theorem ori_ofBool (p q : Bool) : IntOp.ori (BitVec.ofBool p) (BitVec.ofBool q) = BitVec.ofBool (p || q) := by cases p <;> cases q <;> rfl

/-! ## Literals -/

theorem lit_four : Ideal.ofBits .f32 0x40800000#32 = ((4 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_cap : Ideal.ofBits .f32 0x43960000#32 = ((300 : ℝ) : EReal) := by
  simp [Ideal.ofBits, Ideal.ieee, -EReal.coe_mul]; norm_num
theorem lit_eps : Ideal.ofBits .f32 0x3089705F#32 = ((9007199 / 9007199254740992 : ℝ) : EReal) := by
  simp [Ideal.ofBits, Ideal.ieee, -EReal.coe_mul]; norm_num
theorem lit_tenth : Ideal.ofBits .f32 0x3DCCCCCD#32 = ((13421773 / 134217728 : ℝ) : EReal) := by
  simp [Ideal.ofBits, Ideal.ieee, -EReal.coe_mul]; norm_num

/-! ## Boxes -/

/-- The overlap along one axis of two intervals of length 4 around whole points. -/
def sep (a b : ℕ) : ℕ := 4 - (max a b - min a b)

theorem sep_le (a b : ℕ) : sep a b ≤ 4 := Nat.sub_le _ _

theorem abs_form (a b : ℕ) : max (4 - |(a : ℝ) - b|) 0 = (sep a b : ℝ) := by
  unfold sep
  rcases le_total a b with h | h
  · obtain ⟨d, rfl⟩ := Nat.exists_eq_add_of_le h
    rw [max_eq_right h, min_eq_left h, Nat.add_sub_cancel_left]
    push_cast
    rw [show (a : ℝ) - (a + d) = -d from by ring, abs_neg, abs_of_nonneg (Nat.cast_nonneg d)]
    rcases le_total d 4 with h4 | h4
    · rw [Nat.cast_sub h4, max_eq_left]
      · norm_num
      · have : (d : ℝ) ≤ 4 := by exact_mod_cast h4
        linarith
    · rw [Nat.sub_eq_zero_of_le h4, max_eq_right]
      · norm_num
      · have : (4 : ℝ) ≤ d := by exact_mod_cast h4
        linarith
  · obtain ⟨d, rfl⟩ := Nat.exists_eq_add_of_le h
    rw [max_eq_left h, min_eq_right h, Nat.add_sub_cancel_left]
    push_cast
    rw [show (b : ℝ) + d - b = d from by ring, abs_of_nonneg (Nat.cast_nonneg d)]
    rcases le_total d 4 with h4 | h4
    · rw [Nat.cast_sub h4, max_eq_left]
      · norm_num
      · have : (d : ℝ) ≤ 4 := by exact_mod_cast h4
        linarith
    · rw [Nat.sub_eq_zero_of_le h4, max_eq_right]
      · norm_num
      · have : (4 : ℝ) ≤ d := by exact_mod_cast h4
        linarith

theorem minmax_form (a b : ℕ) : min ((a : ℝ) + 2) (b + 2) - max ((a : ℝ) - 2) (b - 2) = 4 - |(a : ℝ) - b| := by
  rcases le_total (a : ℝ) b with h | h
  · rw [min_eq_left (by linarith), max_eq_right (by linarith), abs_of_nonpos (by linarith)]; ring
  · rw [min_eq_right (by linarith), max_eq_left (by linarith), abs_of_nonneg (by linarith)]; ring

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- The overlap along one axis as the rounds take it. -/
theorem side_abs (a b : ℕ) :
    max (Ideal.ofBits .f32 0x40800000#32 - FloatOps.absf (F := Ideal) (φ := .f32) (((a : ℝ) : EReal) - ((b : ℝ) : EReal))) (0 : EReal) = ((sep a b : ℝ) : EReal) := by
  rw [Ideal.absf_def, lit_four, ← abs_form, coe_max, EReal.coe_sub, abs_eq_max_neg, coe_max, EReal.coe_neg, EReal.coe_sub, EReal.coe_zero]

/-- The overlap along one axis as the boxes give it. -/
theorem side_minmax (a b : ℕ) :
    max (min (((a : ℝ) : EReal) + Ideal.ofBits .f32 0x40000000#32) (((b : ℝ) : EReal) + Ideal.ofBits .f32 0x40000000#32)
        - max (((a : ℝ) : EReal) - Ideal.ofBits .f32 0x40000000#32) (((b : ℝ) : EReal) - Ideal.ofBits .f32 0x40000000#32)) (0 : EReal)
      = ((sep a b : ℝ) : EReal) := by
  rw [lit_two, ← abs_form, ← minmax_form, coe_max, EReal.coe_sub, coe_min, coe_max, EReal.coe_add, EReal.coe_add, EReal.coe_sub, EReal.coe_sub, EReal.coe_zero]

/-- The boxes at two places overlap enough. -/
def ov (y x y' x' : ℕ) : Prop := 3 ≤ sep y y' * sep x x'

theorem ov_rounds (y x y' x' : ℕ) :
    Ideal.ofBits .f32 0x40400000#32 ≤ ((sep y y' : ℝ) : EReal) * ((sep x x' : ℝ) : EReal) ↔ ov y x y' x' := by
  rw [lit_three, ← EReal.coe_mul, EReal.coe_le_coe_iff, ← Nat.cast_mul]
  unfold ov
  constructor
  · intro h; exact_mod_cast h
  · intro h; exact_mod_cast h

theorem ov_ratio (s t : ℕ) (hs : s ≤ 4) (ht : t ≤ 4) :
    (13421773 / 134217728 : ℝ) < (s * t : ℝ) / (16 + 16 - s * t + 9007199 / 9007199254740992) ↔ 3 ≤ s * t := by
  have key : ∀ n : ℕ, n ≤ 16 → ((13421773 / 134217728 : ℝ) < (n : ℝ) / (16 + 16 - n + 9007199 / 9007199254740992) ↔ 3 ≤ n) := by
    intro n hn
    have hn' : (n : ℝ) ≤ 16 := by exact_mod_cast hn
    rw [lt_div_iff₀ (by linarith)]
    constructor
    · intro h
      by_contra hc
      have : (n : ℝ) ≤ 2 := by exact_mod_cast (by omega : n ≤ 2)
      linarith
    · intro h
      have : (3 : ℝ) ≤ n := by exact_mod_cast h
      linarith
  have h16 : s * t ≤ 16 := le_trans (Nat.mul_le_mul hs ht) (by norm_num)
  have := key (s * t) h16
  rwa [Nat.cast_mul] at this

/-- A box's area. -/
theorem area (a b : ℕ) :
    ((((a : ℝ) : EReal) + Ideal.ofBits .f32 0x40000000#32) - (((a : ℝ) : EReal) - Ideal.ofBits .f32 0x40000000#32))
      * ((((b : ℝ) : EReal) + Ideal.ofBits .f32 0x40000000#32) - (((b : ℝ) : EReal) - Ideal.ofBits .f32 0x40000000#32)) = ((16 : ℝ) : EReal) := by
  rw [lit_two, ← EReal.coe_add, ← EReal.coe_add, ← EReal.coe_sub, ← EReal.coe_sub, ← EReal.coe_sub, ← EReal.coe_sub, ← EReal.coe_mul]
  congr 1
  ring

/-- The ratio test on the boxes is the test on the overlap. -/
theorem ov_boxes (y x y' x' : ℕ) :
    Ideal.ofBits .f32 0x3DCCCCCD#32 < Ideal.div (((sep x x' : ℝ) : EReal) * ((sep y y' : ℝ) : EReal))
        ((((16 : ℝ) : EReal) + ((16 : ℝ) : EReal)) - ((sep x x' : ℝ) : EReal) * ((sep y y' : ℝ) : EReal) + Ideal.ofBits .f32 0x3089705F#32)
      ↔ ov y x y' x' := by
  have hx := sep_le x x'
  have hy := sep_le y y'
  have hle : ((sep x x' : ℝ) * sep y y' : ℝ) ≤ 16 := by
    have : sep x x' * sep y y' ≤ 16 := le_trans (Nat.mul_le_mul hx hy) (by norm_num)
    exact_mod_cast this
  have hpos : (0 : ℝ) < 16 + 16 - (sep x x' : ℝ) * sep y y' + 9007199 / 9007199254740992 := by linarith
  rw [lit_tenth, lit_eps, ← EReal.coe_mul, ← EReal.coe_add, ← EReal.coe_sub, ← EReal.coe_add]
  unfold Ideal.div
  rw [if_neg (by rw [← EReal.coe_zero, EReal.coe_eq_coe_iff]; exact ne_of_gt hpos), ← EReal.coe_inv, ← EReal.coe_mul, EReal.coe_lt_coe_iff,
    ← div_eq_mul_inv, ov_ratio _ _ hx hy]
  unfold ov
  rw [Nat.mul_comm]

/-- Whether the candidates at two positions of a heat row overlap enough. -/
def ovAt (p q : ℕ) : Prop := ov (p / 512) (p % 512) (q / 512) (q % 512)

end Cert.Boxes

end

end
-- ==== Proof.Nms.lean ====
module

public import proofs.«01_k».proof.Proof.TopK
public import proofs.«01_k».proof.Proof.Greedy
public import proofs.«01_k».proof.Proof.Boxes

/-! # The detections kept

What both programs do with the heat rows: the 1024 largest entries of each row are the candidates, best first; those at or
above the threshold are valid; the greedy choice keeps some; the first 300 kept are written back at their positions. -/

@[expose] public section

noncomputable section

namespace Cert.Nms

open Idealize.ShloMosaic Idealize.ShloMosaic.Pointwise

/-- The heat rows, one per image. -/
abbrev Rows : Type := (⟨2, ![4, 262144]⟩ : Shape).Idx → EReal

variable (x : Rows) (b : Fin 4)

/-- At or above the detection threshold. -/
def valid (i : Fin 1024) : Prop := Ideal.ofBits .f32 0x3C75C28F#32 ≤ TopK.val x b i

/-- The earlier candidate `j` overlaps the later candidate `i`. -/
def over (j i : Fin 1024) : Prop := Boxes.ovAt (TopK.pos x b j).val (TopK.pos x b i).val ∧ j < i

theorem over_lt (j i : Fin 1024) (h : over x b j i) : j < i := h.2

/-- The candidates kept. -/
def kept (i : Fin 1024) : Prop := Greedy.kept (valid x b) (over x b) i

open Classical in
/-- How many kept candidates come before candidate `i`. -/
def rank (i : Fin 1024) : ℕ := (Finset.univ.filter fun j => kept x b j ∧ j < i).card

open Classical in
/-- What candidate `i` writes at its position. -/
def score (i : Fin 1024) : EReal := if kept x b i ∧ rank x b i < 300 then TopK.val x b i else 0

open Classical in
/-- The rows after the suppression. -/
def nms (p : Fin 262144) : EReal := ∑ i : Fin 1024, if TopK.pos x b i = p then score x b i else 0

end Cert.Nms

end

end
-- ==== Proof.KVal.lean ====
module

public import proofs.«01_k».proof.Proof.KRun
public import proofs.«01_k».proof.Proof.Nms
public import Idealize.ShloMosaic.Lib.StableHlo.ReadAt

@[expose] public section

set_option maxRecDepth 16384

noncomputable section

namespace Cert.KernelIdeal.Run

open Idealize.ShloMosaic Idealize.ShloMosaic.TcCoe Idealize.SL Idealize.SL.Sem Idealize.ShloMosaic.Pointwise
open Cert.KernelIdeal Cert.KernelIdeal.Gen

variable (V : Valuation τ sig (Elt Ideal))

abbrev W_hostOps0 : List (Ref sig .tc) := [main_v0, main_c]

theorem stay_hostOps0 {r : Ref sig .tc} (h : r ∉ W_hostOps0) :
    StableHlo.after hostOps0 V (Proc.devRef .tc r) = V (Proc.devRef .tc r) :=
  StableHlo.after_of_writes_sub hostOps0 V (StableHlo.forall_writes_sub_of_map rfl) h

abbrev W_hostOps0_1 : List (Ref sig .tc) := [main_call0_v0, main_v1]

theorem stay_hostOps0_1 {r : Ref sig .tc} (h : r ∉ W_hostOps0_1) :
    StableHlo.after hostOps0_1 V (Proc.devRef .tc r) = V (Proc.devRef .tc r) :=
  StableHlo.after_of_writes_sub hostOps0_1 V (StableHlo.forall_writes_sub_of_map rfl) h

abbrev W_hostOps0_2 : List (Ref sig .tc) := [main_v2, main_v3, main_v4, main_v5, main_v6, main_v7]

theorem stay_hostOps0_2 {r : Ref sig .tc} (h : r ∉ W_hostOps0_2) :
    StableHlo.after hostOps0_2 V (Proc.devRef .tc r) = V (Proc.devRef .tc r) :=
  StableHlo.after_of_writes_sub hostOps0_2 V (StableHlo.forall_writes_sub_of_map rfl) h

abbrev W_hostOps1 : List (Ref sig .tc) := [main_v9, main_v10, main_v11, main_v12, main_v13, main_v14, main_values, main_indices, main_c_0]

theorem stay_hostOps1 {r : Ref sig .tc} (h : r ∉ W_hostOps1) :
    StableHlo.after hostOps1 V (Proc.devRef .tc r) = V (Proc.devRef .tc r) :=
  StableHlo.after_of_writes_sub hostOps1 V (StableHlo.forall_writes_sub_of_map rfl) h

abbrev W_hostOps1_1 : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v15]

theorem stay_hostOps1_1 {r : Ref sig .tc} (h : r ∉ W_hostOps1_1) :
    StableHlo.after hostOps1_1 V (Proc.devRef .tc r) = V (Proc.devRef .tc r) :=
  StableHlo.after_of_writes_sub hostOps1_1 V (StableHlo.forall_writes_sub_of_map rfl) h

abbrev W_hostOps1_2 : List (Ref sig .tc) := [main_v16, main_c_1]

theorem stay_hostOps1_2 {r : Ref sig .tc} (h : r ∉ W_hostOps1_2) :
    StableHlo.after hostOps1_2 V (Proc.devRef .tc r) = V (Proc.devRef .tc r) :=
  StableHlo.after_of_writes_sub hostOps1_2 V (StableHlo.forall_writes_sub_of_map rfl) h

abbrev W_hostOps1_3 : List (Ref sig .tc) := [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v17]

theorem stay_hostOps1_3 {r : Ref sig .tc} (h : r ∉ W_hostOps1_3) :
    StableHlo.after hostOps1_3 V (Proc.devRef .tc r) = V (Proc.devRef .tc r) :=
  StableHlo.after_of_writes_sub hostOps1_3 V (StableHlo.forall_writes_sub_of_map rfl) h

abbrev W_hostOps1_4 : List (Ref sig .tc) := [main_v18, main_v19, main_v20, main_v21, main_v22, main_v23, main_v24, main_v25, main_v26, main_v27, main_v28, main_v29, main_v30, main_cst, main_v31, main_v32, main_cst_2, main_v33, main_v34, main_cst_3, main_v35, main_v36, main_cst_4, main_v37, main_v38, main_v39, main_cst_5, main_v40, main_v41, main_v42, main_v43, main_v44, main_v45, main_v46, main_v47, main_v48, main_v49, main_v50, main_v51, main_v52, main_v53, main_v54, main_v55, main_v56, main_v57, main_v58, main_v59, main_cst_6, main_v60, main_v61, main_v62, main_cst_7, main_v63, main_cst_8, main_v64_0, main_v64_1, main_v64_2, main_v64_3]

theorem stay_hostOps1_4 {r : Ref sig .tc} (h : r ∉ W_hostOps1_4) :
    StableHlo.after hostOps1_4 V (Proc.devRef .tc r) = V (Proc.devRef .tc r) :=
  StableHlo.after_of_writes_sub hostOps1_4 V (StableHlo.forall_writes_sub_of_map rfl) h

abbrev W_hostOps1_5 : List (Ref sig .tc) := [main_v65, main_cst_9, main_v66, main_v67, main_v68, main_v69, main_cst_10, main_v70, main_v71, main_cst_11]

theorem stay_hostOps1_5 {r : Ref sig .tc} (h : r ∉ W_hostOps1_5) :
    StableHlo.after hostOps1_5 V (Proc.devRef .tc r) = V (Proc.devRef .tc r) :=
  StableHlo.after_of_writes_sub hostOps1_5 V (StableHlo.forall_writes_sub_of_map rfl) h

abbrev W_hostOps1_6 : List (Ref sig .tc) := [main_call3_v0, main_call3_v1, main_v72]

theorem stay_hostOps1_6 {r : Ref sig .tc} (h : r ∉ W_hostOps1_6) :
    StableHlo.after hostOps1_6 V (Proc.devRef .tc r) = V (Proc.devRef .tc r) :=
  StableHlo.after_of_writes_sub hostOps1_6 V (StableHlo.forall_writes_sub_of_map rfl) h

abbrev W_hostOps1_7 : List (Ref sig .tc) := [main_v73, main_v74, main_c_12, main_v75, main_v76, main_v77, main_v78, main_v79, main_cst_13, main_v80, main_v81, main_c_14, main_v82, main_v83, main_c_15, main_v84, main_v85, main_v86, main_v87, main_v88, main_v89, main_cst_16, main_v90, main_v91, main_v92]

theorem stay_hostOps1_7 {r : Ref sig .tc} (h : r ∉ W_hostOps1_7) :
    StableHlo.after hostOps1_7 V (Proc.devRef .tc r) = V (Proc.devRef .tc r) :=
  StableHlo.after_of_writes_sub hostOps1_7 V (StableHlo.forall_writes_sub_of_map rfl) h

abbrev W_while0Ops0 : List (Ref sig .tc) := [main_while0b_v93, main_while0b_v94, main_while0b_cst_20, main_while0b_v95, main_while0b_v96, main_while0b_v97, main_while0b_v98, main_while0b_cst_21, main_while0b_v99, main_while0b_v100, main_while0b_v101, main_while0b_v102, main_while0b_cst_22, main_while0b_v103, main_while0b_v104, main_while0b_v105, main_while0b_v106, main_while0b_v107, main_while0b_v108, main_while0b_v109, main_while0b_cst_23, main_while0b_v110, main_v64_1, main_v64_2, main_v64_3]

theorem stay_while0Ops0 {r : Ref sig .tc} (h : r ∉ W_while0Ops0) :
    StableHlo.after while0Ops0 V (Proc.devRef .tc r) = V (Proc.devRef .tc r) :=
  StableHlo.after_of_writes_sub while0Ops0 V (StableHlo.forall_writes_sub_of_map rfl) h

abbrev W_cond : List (Ref sig .tc) := [main_while0c_cst_20, main_while0c_v93]

theorem stay_cond {r : Ref sig .tc} (h : r ∉ W_cond) :
    StableHlo.after condOps V (Proc.devRef .tc r) = V (Proc.devRef .tc r) :=
  StableHlo.after_of_writes_sub condOps V (StableHlo.forall_writes_sub_of_map rfl) h

theorem top_values : (StableHlo.after hostOps1 V (Proc.devRef .tc main_values) : S4x1024.Idx → EReal)
    = (Host.topK S4x1024 1 (FloatOps.cmpfTotal (F := Ideal) (φ := .f32) .gt) (StableHlo.after hostOps1 V (Proc.devRef .tc main_v14) : S4x262144.Idx → EReal) sliceFits_S4x262144_S4x1024).1 := by
  simp only [hostOps1]
  after_reads_simp

theorem top_indices : (StableHlo.after hostOps1 V (Proc.devRef .tc main_indices) : S4x1024.Idx → BitVec 32)
    = (Host.topK S4x1024 1 (FloatOps.cmpfTotal (F := Ideal) (φ := .f32) .gt) (StableHlo.after hostOps1 V (Proc.devRef .tc main_v14) : S4x262144.Idx → EReal) sliceFits_S4x262144_S4x1024).2 := by
  simp only [hostOps1]
  after_reads_simp

theorem div_at (b : Fin 4) (i : Fin 1024) : (StableHlo.after hostOps1_1 V (Proc.devRef .tc main_v15) : S4x1024.Idx → BitVec 32) (ix2 b i)
    = Boxes.fdiv ((V (Proc.devRef .tc main_indices) : S4x1024.Idx → BitVec 32) (ix2 b i)) ((V (Proc.devRef .tc main_c_0) : S_.Idx → BitVec 32) ix0) := by
  simp only [hostOps1_1]
  after_reads_at
  simp only [id_eq]
  pointwise
  rfl

theorem mod_at (b : Fin 4) (i : Fin 1024) : (StableHlo.after hostOps1_3 V (Proc.devRef .tc main_v17) : S4x1024.Idx → BitVec 32) (ix2 b i)
    = Boxes.fmod ((V (Proc.devRef .tc main_indices) : S4x1024.Idx → BitVec 32) (ix2 b i)) ((V (Proc.devRef .tc main_c_1) : S_.Idx → BitVec 32) ix0) := by
  simp only [hostOps1_3]
  after_reads_at
  simp only [id_eq]
  pointwise
  rfl

theorem c0_at : (StableHlo.after hostOps1 V (Proc.devRef .tc main_c_0) : S_.Idx → BitVec 32) ix0 = (512#32 : BitVec 32) := by
  simp only [hostOps1]
  after_reads_at
theorem c1_at : (StableHlo.after hostOps1_2 V (Proc.devRef .tc main_c_1) : S_.Idx → BitVec 32) ix0 = (512#32 : BitVec 32) := by
  simp only [hostOps1_2]
  after_reads_at
theorem v16_at (b : Fin 4) (i : Fin 1024) : (StableHlo.after hostOps1_2 V (Proc.devRef .tc main_v16) : S4x1024.Idx → EReal) (ix2 b i)
    = (FloatOps.sitofp (F := Ideal) .f32 ((V (Proc.devRef .tc main_v15) : S4x1024.Idx → BitVec 32) (ix2 b i)) : EReal) := by
  simp only [hostOps1_2]
  after_reads_at

end Cert.KernelIdeal.Run

end

end
-- ==== Proof.KLoop.lean ====
module

public import proofs.«01_k».proof.Proof.KRun
public import proofs.«01_k».proof.Proof.KVal
public import proofs.«01_k».proof.Proof.Ind
public import Idealize.ShloMosaic.Lib.StableHlo.ReadAt

@[expose] public section

set_option maxRecDepth 16384

noncomputable section

namespace Cert.KernelIdeal.Run

open Idealize.ShloMosaic Idealize.ShloMosaic.TcCoe Idealize.SL Idealize.SL.Sem Idealize.ShloMosaic.Pointwise
open Cert.KernelIdeal Cert.KernelIdeal.Gen
/-! ## One round -/

theorem or_false_left (p q : Prop) (h : ¬ p) : (p ∨ q) ↔ q := ⟨fun o => o.resolve_left h, Or.inr⟩

section Round

variable {N : ℕ} (O : Fin N → Fin N → Prop) (K U : Fin N → Prop) (i : Fin N)

theorem hit_sum : ∑ x, Ind.ind (K x) * Ind.ind (O x i) = ∑ x, Ind.ind (K x ∧ O x i) :=
  Finset.sum_congr rfl fun x _ => Ind.ind_mul _ _

theorem hit_none : (∑ x, Ind.ind (K x) * Ind.ind (O x i) = 0) ↔ ¬ ∃ x, K x ∧ O x i := by rw [hit_sum, Ind.sum_eq_zero]
theorem hit_some : (0 < ∑ x, Ind.ind (K x) * Ind.ind (O x i)) ↔ ∃ x, K x ∧ O x i := by rw [hit_sum, Ind.sum_pos]

theorem new_word [Decidable (∑ x, Ind.ind (K x) * Ind.ind (O x i) = 0)] [Decidable (∑ x, Ind.ind (U x) * Ind.ind (O x i) = 0)] :
    Ind.ind (U i) * FloatOps.uitofp (F := Ideal) .f32 (BitVec.ofBool (decide (∑ x, Ind.ind (K x) * Ind.ind (O x i) = 0)))
        * FloatOps.uitofp (F := Ideal) .f32 (BitVec.ofBool (decide (∑ x, Ind.ind (U x) * Ind.ind (O x i) = 0)))
      = Ind.ind (Greedy.newKept O K U i) := by
  rw [Ind.uitofp_ofBool, Ind.uitofp_ofBool, Ind.ind_mul, Ind.ind_mul]
  refine Ind.ind_congr ?_
  rw [hit_none, hit_none]
  exact and_assoc

theorem sup_word [Decidable (0 < ∑ x, Ind.ind (K x) * Ind.ind (O x i))] :
    Ind.ind (U i) * FloatOps.uitofp (F := Ideal) .f32 (BitVec.ofBool (decide (0 < ∑ x, Ind.ind (K x) * Ind.ind (O x i))))
      = Ind.ind (Greedy.newSup O K U i) := by
  rw [Ind.uitofp_ofBool, Ind.ind_mul]
  refine Ind.ind_congr ?_
  rw [hit_some]
  exact Iff.rfl

theorem keep_word (hd : K i → ¬ U i) : Ind.ind (K i) + Ind.ind (Greedy.newKept O K U i) = Ind.ind (K i ∨ Greedy.newKept O K U i) :=
  Ind.ind_add_ind _ _ fun h h' => hd h h'.1

theorem left_word : Ind.ind (U i) - Ind.ind (Greedy.newSup O K U i) - Ind.ind (Greedy.newKept O K U i)
    = Ind.ind (U i ∧ ¬ Greedy.newSup O K U i ∧ ¬ Greedy.newKept O K U i) := by
  rw [Ind.ind_sub_ind _ _ fun h => h.1, Ind.ind_sub_ind _ _ fun h => ⟨h.1, fun h' => h.2.1 h'.2⟩]
  exact Ind.ind_congr and_assoc

end Round

/-! ## Round by round -/

variable (V : Valuation τ sig (Elt Ideal))

/-- The buffers of the rounds hold: the overlaps, the kept, and the undecided. -/
structure Holds (O : Fin 4 → Fin 1024 → Fin 1024 → Prop) (K U : Fin 4 → Fin 1024 → Prop) : Prop where
  over : ∀ b j i, (V (Proc.devRef .tc main_v64_0) : S4x1024x1024.Idx → EReal) (ix3 b j i) = Ind.ind (O b j i)
  keep : ∀ b i, (V (Proc.devRef .tc main_v64_1) : S4x1024.Idx → EReal) (ix2 b i) = Ind.ind (K b i)
  left : ∀ b i, (V (Proc.devRef .tc main_v64_2) : S4x1024.Idx → EReal) (ix2 b i) = Ind.ind (U b i)

variable {V} {O : Fin 4 → Fin 1024 → Fin 1024 → Prop} {K U : Fin 4 → Fin 1024 → Prop}

theorem Holds.congr {W : Valuation τ sig (Elt Ideal)} (h : Holds V O K U)
    (h0 : W (Proc.devRef .tc main_v64_0) = V (Proc.devRef .tc main_v64_0)) (h1 : W (Proc.devRef .tc main_v64_1) = V (Proc.devRef .tc main_v64_1))
    (h2 : W (Proc.devRef .tc main_v64_2) = V (Proc.devRef .tc main_v64_2)) : Holds W O K U where
  over b j i := (congrFun h0 _).trans (h.over b j i)
  keep b i := (congrFun h1 _).trans (h.keep b i)
  left b i := (congrFun h2 _).trans (h.left b i)

theorem round_keep (h : Holds V O K U) (b : Fin 4) (i : Fin 1024) (hd : K b i → ¬ U b i) :
    (StableHlo.after while0Ops0 V (Proc.devRef .tc main_v64_1) : S4x1024.Idx → EReal) (ix2 b i)
      = Ind.ind (K b i ∨ Greedy.newKept (O b) (K b) (U b) i) := by
  rw [← keep_word _ _ _ _ hd, ← new_word]
  simp only [← h.over, ← h.keep, ← h.left, while0Ops0]
  after_reads_at
  simp only [id_eq]
  pointwise

theorem round_left (h : Holds V O K U) (b : Fin 4) (i : Fin 1024) :
    (StableHlo.after while0Ops0 V (Proc.devRef .tc main_v64_2) : S4x1024.Idx → EReal) (ix2 b i)
      = Ind.ind (U b i ∧ ¬ Greedy.newSup (O b) (K b) (U b) i ∧ ¬ Greedy.newKept (O b) (K b) (U b) i) := by
  rw [← left_word, ← new_word, ← sup_word]
  simp only [← h.over, ← h.keep, ← h.left, while0Ops0]
  after_reads_at
  simp only [id_eq]
  pointwise

/-- The undecided flag of a candidate after a round. -/
def leftAt (V : Valuation τ sig (Elt Ideal)) (b : Fin 4) (i : Fin 1024) : EReal :=
  (StableHlo.after while0Ops0 V (Proc.devRef .tc main_v64_2) : S4x1024.Idx → EReal) (ix2 b i)

theorem round_total (V : Valuation τ sig (Elt Ideal)) : (StableHlo.after while0Ops0 V (Proc.devRef .tc main_v64_3) : S_.Idx → EReal) HostLoop.idx0
    = ∑ b : Fin 4, ∑ i : Fin 1024, leftAt V b i := by
  unfold leftAt
  simp only [while0Ops0]
  after_reads_at
  simp only [id_eq]
  pointwise

/-! ## Where the rounds begin -/

variable (V : Valuation τ sig (Elt Ideal)) (x : Nms.Rows)

/-- The candidates are in place. -/
structure Cands : Prop where
  value : ∀ b i, (V (Proc.devRef .tc main_values) : S4x1024.Idx → EReal) (ix2 b i) = TopK.val x b i
  index : ∀ b i, (V (Proc.devRef .tc main_indices) : S4x1024.Idx → BitVec 32) (ix2 b i) = BitVec.ofNat 32 (TopK.pos x b i).val

/-- Their rows and columns are too. -/
structure Coords : Prop extends Cands V x where
  row : ∀ b i, (V (Proc.devRef .tc main_v16) : S4x1024.Idx → EReal) (ix2 b i) = ((((TopK.pos x b i).val / 512 : ℕ) : ℝ) : EReal)
  col : ∀ b i, (V (Proc.devRef .tc main_v17) : S4x1024.Idx → BitVec 32) (ix2 b i) = BitVec.ofNat 32 ((TopK.pos x b i).val % 512)

variable {V x}

theorem Cands.congr {W : Valuation τ sig (Elt Ideal)} (h : Cands V x)
    (h0 : W (Proc.devRef .tc main_values) = V (Proc.devRef .tc main_values)) (h1 : W (Proc.devRef .tc main_indices) = V (Proc.devRef .tc main_indices)) :
    Cands W x where
  value b i := (congrFun h0 _).trans (h.value b i)
  index b i := (congrFun h1 _).trans (h.index b i)

/-- The rows the candidates are taken from. -/
def hf (V : Valuation τ sig (Elt Ideal)) : Nms.Rows := (StableHlo.after hostOps1 V (Proc.devRef .tc main_v14) : S4x262144.Idx → EReal)

theorem cands1 (V : Valuation τ sig (Elt Ideal)) : Cands (StableHlo.after hostOps1 V) (hf V) where
  value b i := (congrFun (top_values V) _).trans (TopK.topK_val _ _ b i)
  index b i := (congrFun (top_indices V) _).trans (TopK.topK_pos _ _ b i)

theorem coords (V : Valuation τ sig (Elt Ideal)) :
    Coords (StableHlo.after hostOps1_3 (StableHlo.after hostOps1_2 (StableHlo.after hostOps1_1 (StableHlo.after hostOps1 V)))) (hf V) where
  toCands := (((cands1 V).congr (stay_hostOps1_1 _ (by decide)) (stay_hostOps1_1 _ (by decide))).congr
    (stay_hostOps1_2 _ (by decide)) (stay_hostOps1_2 _ (by decide))).congr (stay_hostOps1_3 _ (by decide)) (stay_hostOps1_3 _ (by decide))
  row b i := by
    have hp : (TopK.pos (hf V) b i).val < 262144 := (TopK.pos (hf V) b i).isLt
    refine (congrFun (stay_hostOps1_3 _ (by decide)) _).trans ((v16_at _ b i).trans ?_)
    rw [div_at, (cands1 V).index, c0_at, Boxes.fdiv_word hp, Boxes.sitofp_word (by omega)]
  col b i := by
    have hp : (TopK.pos (hf V) b i).val < 262144 := (TopK.pos (hf V) b i).isLt
    refine (mod_at _ b i).trans ?_
    rw [c1_at, (((cands1 V).congr (stay_hostOps1_1 _ (by decide)) (stay_hostOps1_1 _ (by decide))).congr
      (stay_hostOps1_2 _ (by decide)) (stay_hostOps1_2 _ (by decide))).index, Boxes.fmod_word hp]

theorem word_and (p q : Prop) [Decidable p] [Decidable q] : IntOp.andi (BitVec.ofBool (decide p)) (BitVec.ofBool (decide q)) = BitVec.ofBool (decide (p ∧ q)) := by
  rw [Boxes.andi_ofBool]; congr 1; simp
theorem word_or (p q : Prop) [Decidable p] [Decidable q] : IntOp.ori (BitVec.ofBool (decide p)) (BitVec.ofBool (decide q)) = BitVec.ofBool (decide (p ∨ q)) := by
  rw [Boxes.ori_ofBool]; congr 1; simp

/-- The order of the candidates as the host decides it. -/
theorem first_word (x : Nms.Rows) (b : Fin 4) (j i : Fin 1024) :
    IntOp.ori (BitVec.ofBool (decide (TopK.val x b i < TopK.val x b j)))
      (IntOp.andi (BitVec.ofBool (decide (TopK.val x b j = TopK.val x b i)))
        (IntOp.cmpi .slt (BitVec.ofNat 32 (TopK.pos x b j).val) (BitVec.ofNat 32 (TopK.pos x b i).val)))
      = BitVec.ofBool (decide (j < i)) := by
  have hj : (TopK.pos x b j).val < 262144 := (TopK.pos x b j).isLt
  have hi : (TopK.pos x b i).val < 262144 := (TopK.pos x b i).isLt
  rw [Boxes.slt_word (by omega) (by omega), word_and, word_or]
  congr 1
  exact decide_eq_decide.2 (TopK.lex_iff x b j i)

theorem enter_over (h : Coords V x) (b : Fin 4) (j i : Fin 1024) :
    (StableHlo.after hostOps1_4 V (Proc.devRef .tc main_v64_0) : S4x1024x1024.Idx → EReal) (ix3 b j i) = Ind.ind (Nms.over x b j i) := by
  have hj : (TopK.pos x b j).val < 262144 := (TopK.pos x b j).isLt
  have hi : (TopK.pos x b i).val < 262144 := (TopK.pos x b i).isLt
  simp only [hostOps1_4]
  after_reads_at
  simp only [id_eq]
  pointwise
  rw [h.index, h.index, h.value, h.value, first_word, h.row, h.row, h.col, h.col, Boxes.sitofp_word (by omega), Boxes.sitofp_word (by omega), Boxes.side_abs, Boxes.side_abs, word_and, Ind.uitofp_ofBool]
  refine Ind.ind_congr ?_
  rw [Boxes.ov_rounds]
  exact Iff.rfl

theorem enter_first (h : Coords V x) (b : Fin 4) (j i : Fin 1024) :
    (StableHlo.after hostOps1_4 V (Proc.devRef .tc main_v59) : S4x1024x1024.Idx → EReal) (ix3 b j i) = Ind.ind (j < i) := by
  simp only [hostOps1_4]
  after_reads_at
  pointwise
  rw [h.index, h.index, h.value, h.value, first_word, Ind.uitofp_ofBool]

theorem enter_left (h : Coords V x) (b : Fin 4) (i : Fin 1024) :
    (StableHlo.after hostOps1_4 V (Proc.devRef .tc main_v64_2) : S4x1024.Idx → EReal) (ix2 b i) = Ind.ind (Nms.valid x b i) := by
  simp only [hostOps1_4]
  after_reads_at
  simp only [id_eq]
  pointwise
  rw [h.value, Ind.uitofp_ofBool]
  rfl

theorem enter_keep (V : Valuation τ sig (Elt Ideal)) (b : Fin 4) (i : Fin 1024) :
    (StableHlo.after hostOps1_4 V (Proc.devRef .tc main_v64_1) : S4x1024.Idx → EReal) (ix2 b i) = Ind.ind False := by
  rw [Ind.ind_false not_false]
  simp only [hostOps1_4]
  after_reads_at
  simp only [id_eq]
  pointwise

theorem enter_total (V : Valuation τ sig (Elt Ideal)) :
    (StableHlo.after hostOps1_4 V (Proc.devRef .tc main_v64_3) : S_.Idx → EReal) HostLoop.idx0 = (1 : EReal) := by
  simp only [hostOps1_4]
  after_reads_at
  simp only [id_eq]
  pointwise

/-! ## All the rounds -/

variable (m : (ℓ : Loc nD τ sig) → Buf (Elt Ideal) ℓ) (c : Dev nD)

/-- The candidates kept and undecided after `k` rounds. -/
abbrev st (x : Nms.Rows) (k : ℕ) (b : Fin 4) : (Fin 1024 → Prop) × (Fin 1024 → Prop) := Greedy.state (Nms.valid x b) (Nms.over x b) k

abbrev rows : Nms.Rows := hf (mid m c)

theorem ent_eq : ent m c = StableHlo.after hostOps1_4 (StableHlo.after hostOps1_3 (StableHlo.after hostOps1_2 (StableHlo.after hostOps1_1 (StableHlo.after hostOps1 (mid m c))))) := rfl

theorem rnd_succ (k : ℕ) : rnd m (k + 1) c = StableHlo.after while0Ops0 (StableHlo.after condOps (rnd m k c)) := rfl

theorem holds_cond {W : Valuation τ sig (Elt Ideal)} {O : Fin 4 → Fin 1024 → Fin 1024 → Prop} {K U : Fin 4 → Fin 1024 → Prop} (h : Holds W O K U) :
    Holds (StableHlo.after condOps W) O K U :=
  h.congr (stay_cond _ (by decide)) (stay_cond _ (by decide)) (stay_cond _ (by decide))

theorem holds (k : ℕ) : Holds (rnd m k c) (Nms.over (rows m c)) (fun b => (st (rows m c) k b).1) (fun b => (st (rows m c) k b).2) := by
  induction k with
  | zero =>
    show Holds (ent m c) _ _ _
    rw [ent_eq]
    exact ⟨enter_over (coords _), fun b i => enter_keep _ b i, enter_left (coords _)⟩
  | succ k ih =>
    rw [rnd_succ]
    have h := holds_cond ih
    refine ⟨fun b j i => (congrFun (stay_while0Ops0 _ (by decide)) _).trans (h.over b j i), fun b i => ?_, fun b i => round_left h b i⟩
    exact round_keep h b i ((Greedy.state_kept _ _ (Nms.over_lt _ b) k).2.2.1 i)

/-- What the rounds do not write stays. -/
theorem rnd_stay {r : Ref sig .tc} (h : r ∉ W_while0Ops0) (h' : r ∉ W_cond) (k : ℕ) : rnd m k c (Proc.devRef .tc r) = ent m c (Proc.devRef .tc r) := by
  induction k with
  | zero => rfl
  | succ k ih => rw [rnd_succ, stay_while0Ops0 _ h, stay_cond _ h', ih]

/-- Another round follows after `k`. -/
def Live (x : Nms.Rows) (k : ℕ) : Prop := k = 0 ∨ ∃ b i, (st x k b).2 i

theorem total_pos (U : Fin 4 → Fin 1024 → Prop) : (0 < ∑ b : Fin 4, ∑ i : Fin 1024, Ind.ind (U b i)) ↔ ∃ b i, U b i := by
  rw [← Fintype.sum_prod_type', Ind.sum_pos fun q : Fin 4 × Fin 1024 => U q.1 q.2]
  exact ⟨fun ⟨q, h⟩ => ⟨q.1, q.2, h⟩, fun ⟨b, i, h⟩ => ⟨(b, i), h⟩⟩

theorem gt_word (a : EReal) : Iff (FloatOps.cmpf (F := Ideal) (φ := .f32) .ogt a (FloatOps.ofBits (F := Ideal) .f32 0x00000000#32) = 1#1) (0 < a) := by
  rw [show (FloatOps.ofBits (F := Ideal) .f32 0x00000000#32 : EReal) = 0 from by simp [FloatOps.ofBits, Ideal.ofBits, Ideal.ieee]]
  show BitVec.ofBool (decide (0 < a)) = 1#1 ↔ _
  by_cases h : 0 < a
  · rw [decide_eq_true h]; exact ⟨fun _ => h, fun _ => rfl⟩
  · rw [decide_eq_false h]; exact ⟨fun e => absurd e (by decide), fun h' => absurd h' h⟩

theorem live_word (k : ℕ) : Iff (FloatOps.cmpf (F := Ideal) (φ := .f32) .ogt ((rnd m k c (Proc.devRef .tc main_v64_3) : S_.Idx → EReal) HostLoop.idx0)
      (FloatOps.ofBits (F := Ideal) .f32 0x00000000#32) = 1#1) (Live (rows m c) k) := by
  rw [gt_word]
  cases k with
  | zero =>
    rw [show (rnd m 0 c (Proc.devRef .tc main_v64_3) : S_.Idx → EReal) HostLoop.idx0 = (1 : EReal) from enter_total _]
    exact ⟨fun _ => Or.inl rfl, fun _ => zero_lt_one⟩
  | succ k =>
    have e : @Eq EReal ((rnd m (k + 1) c (Proc.devRef .tc main_v64_3) : S_.Idx → EReal) HostLoop.idx0) (∑ b : Fin 4, ∑ i : Fin 1024, Ind.ind ((st (rows m c) (k + 1) b).2 i)) := by
      rw [rnd_succ, round_total]
      exact Finset.sum_congr rfl fun b _ => Finset.sum_congr rfl fun i _ => show leftAt _ b i = _ from (holds m c (k + 1)).left b i
    rw [e, total_pos]
    exact ⟨Or.inr, fun h => h.resolve_left (Nat.succ_ne_zero k)⟩

theorem dead (x : Nms.Rows) : ¬ Live x 1024 := by
  rintro (h | ⟨b, i, h⟩)
  · exact absurd h (by decide)
  · exact absurd (Greedy.le_of_undecided _ _ (Nms.over_lt x b) 1024 i h) (by omega)

/-- The rounds stop, and then the kept candidates are in the buffer. -/
theorem stops : ∃ n, Stops m n ∧ ∀ (c : Dev nD) (b : Fin 4) (i : Fin 1024),
    (out m n c (Proc.devRef .tc main_v64_1) : S4x1024.Idx → EReal) (ix2 b i) = Ind.ind (Nms.kept (rows m c) b i) := by
  classical
  have hx : ∃ k, ¬ Live (rows m 0) k := ⟨1024, dead _⟩
  have one : ∀ c : Dev nD, c = 0 := fun c => Subsingleton.elim c 0
  have live_of_lt : ∀ k, k < Nat.find hx → Live (rows m 0) k := fun k h => not_not.1 (Nat.find_min hx h)
  refine ⟨Nat.find hx, fun k hk c => ?_, fun c b i => ?_⟩
  · rw [one c]
    refine (live_word m 0 k).trans ⟨fun h => lt_of_le_of_ne hk fun e => Nat.find_spec hx (e ▸ h), live_of_lt k⟩
  · rw [one c]
    refine ((holds_cond (holds m 0 (Nat.find hx))).keep b i).trans (Ind.ind_congr ?_)
    refine Greedy.state_final _ _ (Nms.over_lt _ b) _ (fun i h => ?_) i
    exact Nat.find_spec hx (Or.inr ⟨b, i, h⟩)

end Cert.KernelIdeal.Run

end

end
-- ==== Proof.Tail.lean ====
module

public import proofs.«01_k».proof.Proof.Nms
public import proofs.«01_k».proof.Proof.Ind
public import Idealize.ShloMosaic.Lib.Routing.OpsPair

/-! # Writing the detections back

A scatter-add into zeros at distinct places, over one flat array of all images or over the rows of the images; the count of
the kept candidates up to a candidate. -/

@[expose] public section

noncomputable section

namespace Cert.Tail

open Idealize.ShloMosaic Idealize.ShloMosaic.Pointwise Idealize.ShloMosaic.Routing

section Scatter

variable {R N P : ℕ}

/-- One row's candidates at place `p`, picked out of the candidates of all rows. -/
theorem row_sum (pos : Fin R → Fin N → Fin P) (u : Fin R → Fin N → EReal) (b : Fin R) (p : Fin P) (hit : Fin R → Fin N → Prop)
    [∀ r i, Decidable (hit r i)] (hh : ∀ r i, hit r i ↔ r = b ∧ pos r i = p) :
    (∑ r : Fin R, ∑ i : Fin N, if hit r i then u r i else 0) = ∑ i : Fin N, if pos b i = p then u b i else 0 := by
  rw [Finset.sum_eq_single b]
  · refine Finset.sum_congr rfl fun i _ => if_congr ?_ rfl rfl
    rw [hh]
    exact ⟨fun h => h.2, fun h => ⟨rfl, h⟩⟩
  · intro r _ hr
    refine Finset.sum_eq_zero fun i _ => if_neg fun h => hr ((hh r i).1 h).1
  · intro h
    exact absurd (Finset.mem_univ b) h

theorem flat_hit (r b : Fin R) (q p : Fin P) : r.val * P + q.val = b.val * P + p.val ↔ r = b ∧ q = p := by
  have hP : 0 < P := lt_of_le_of_lt (Nat.zero_le _) p.isLt
  constructor
  · intro h
    have hr : r.val = b.val := by
      have h1 := congrArg (· / P) h
      simpa [Nat.mul_comm _ P, Nat.mul_add_div hP, Nat.div_eq_of_lt q.isLt, Nat.div_eq_of_lt p.isLt] using h1
    rw [hr] at h
    exact ⟨Fin.ext hr, Fin.ext (Nat.add_left_cancel h)⟩
  · rintro ⟨rfl, rfl⟩
    rfl

/-- Update `k` of a scatter of scalars into a vector lands at `e` exactly when its index word, read signed, is `e`. -/
theorem lands {M T : ℕ} (d : ScatterDims (shape1 M) (shape2 T 1) (shape1 T)) (hi : d.insertedWindowDims = [0])
    (hs : d.scatterDimsToOperandDims = [0]) (hv : d.indexVectorDim = 1) (idx : IVec (shape2 T 1) 32) (k : Fin T) (e : Fin M) :
    d.resultIdx? (ix1 k) idx = some (ix1 e) ↔ (idx (ix2 k (0 : Fin 1))).toInt = (e.val : Int) := by
  refine (resultIdx?_ix1 d (ix1 k) idx e).trans ?_
  have m0 : (0 : Fin 1) ∈ d.scatterDimsToOperandDims := hs ▸ List.mem_singleton.2 rfl
  have w0 : d.window (ix1 k) 0 = 0 := by
    unfold ScatterDims.window
    refine dif_neg fun h => ?_
    have h2 : (0 : Fin 1) ∉ d.insertedWindowDims := of_decide_eq_true (List.mem_filter.1 h).2
    exact h2 (hi ▸ List.mem_singleton.2 rfl)
  have s0 : d.start (ix1 k) idx 0 = (idx (ix2 k (0 : Fin 1))).toInt := by
    unfold ScatterDims.start
    rw [dif_pos m0]
    refine congrArg (fun j => (idx j).toInt) (funext fun a => Fin.ext ?_)
    match a with
    | ⟨0, _⟩ =>
      unfold ScatterDims.siIdx
      rw [dif_neg (by rw [hv]; exact Nat.zero_ne_one)]
      unfold ScatterDims.siCoord
      have one : ∀ x : Fin 1, ((ix1 k : (shape1 T).Idx) x).val = k.val := fun x => by
        rw [Subsingleton.elim x 0]; rfl
      exact one _
    | ⟨1, _⟩ => exact Nat.lt_one_iff.1 (Fin.isLt _)
  rw [w0, s0]
  simp

/-- The scatter over one flat array. -/
theorem scatter_flat {M T : ℕ} (hT : T = R * N) (d : ScatterDims (shape1 M) (shape2 T 1) (shape1 T)) (hi : d.insertedWindowDims = [0])
    (hs : d.scatterDimsToOperandDims = [0]) (hv : d.indexVectorDim = 1) (z : (shape1 M).Idx → EReal) (idx : IVec (shape2 T 1) 32)
    (upd : (shape1 T).Idx → EReal) (pos : Fin R → Fin N → Fin P) (u : Fin R → Fin N → EReal) (hz : ∀ i, z i = 0)
    (hidx : ∀ (k : Fin T) (r : Fin R) (i : Fin N), k.val = i.val + N * r.val → (idx (ix2 k (0 : Fin 1))).toInt = ((r.val * P + (pos r i).val : ℕ) : Int))
    (hupd : ∀ (k : Fin T) (r : Fin R) (i : Fin N), k.val = i.val + N * r.val → upd (ix1 k) = u r i)
    (b : Fin R) (p : Fin P) (n : Fin M) (hn : n.val = b.val * P + p.val) :
    Host.scatterAdd (F := Ideal) (φ := .f32) d z idx upd (ix1 n) = ∑ i : Fin N, if pos b i = p then u b i else 0 := by
  subst hT
  show z (ix1 n) + ∑ j ∈ Finset.univ.filter (fun j => d.resultIdx? j idx = some (ix1 n)), upd j = _
  rw [hz, zero_add, Finset.sum_filter, sum_idx1, ← Equiv.sum_comp finProdFinEquiv, Fintype.sum_prod_type]
  have hk : ∀ (r : Fin R) (i : Fin N), (finProdFinEquiv (r, i)).val = i.val + N * r.val := fun r i => rfl
  refine Eq.trans (Finset.sum_congr rfl fun r _ => Finset.sum_congr rfl fun i _ => ?_) (row_sum pos u b p _ fun r i => flat_hit r b (pos r i) p)
  refine if_congr ?_ (hupd _ r i (hk r i)) rfl
  rw [lands d hi hs hv, hidx _ r i (hk r i), hn]
  exact Int.ofNat_inj

/-- The scatter over the rows. -/
theorem scatter_rows (d : ScatterDims (shape2 R P) (shape3 R N 2) (shape2 R N)) (hi : d.insertedWindowDims = [0, 1])
    (hs : d.scatterDimsToOperandDims = [0, 1]) (hv : d.indexVectorDim = 2) (z : (shape2 R P).Idx → EReal) (idx : IVec (shape3 R N 2) 32)
    (upd : (shape2 R N).Idx → EReal) (pos : Fin R → Fin N → Fin P) (u : Fin R → Fin N → EReal) (hz : ∀ i, z i = 0)
    (h0 : ∀ (r : Fin R) (i : Fin N), (idx (ix3 r i 0)).toInt = (r.val : Int))
    (h1 : ∀ (r : Fin R) (i : Fin N), (idx (ix3 r i 1)).toInt = ((pos r i).val : Int))
    (hupd : ∀ (r : Fin R) (i : Fin N), upd (ix2 r i) = u r i) (b : Fin R) (p : Fin P) :
    Host.scatterAdd (F := Ideal) (φ := .f32) d z idx upd (ix2 b p) = ∑ i : Fin N, if pos b i = p then u b i else 0 := by
  show z (ix2 b p) + ∑ j ∈ Finset.univ.filter (fun j => d.resultIdx? j idx = some (ix2 b p)), upd j = _
  rw [hz, zero_add, Finset.sum_filter, sum_idx2]
  refine Eq.trans (Finset.sum_congr rfl fun r _ => Finset.sum_congr rfl fun i _ => ?_)
    (row_sum pos u b p (fun r i => r = b ∧ pos r i = p) fun r i => Iff.rfl)
  refine if_congr ?_ (hupd r i) rfl
  refine (scatter_lands2 d hi hs hv idx r i b p).trans ?_
  have e0 : (idx (ValueIdx.ix3 r i 0)).toInt = (r.val : Int) := h0 r i
  have e1 : (idx (ValueIdx.ix3 r i 1)).toInt = ((pos r i).val : Int) := h1 r i
  rw [e0, e1, Int.ofNat_inj, Int.ofNat_inj, Fin.ext_iff, Fin.ext_iff]

end Scatter

/-! ## Counting -/

/-- The prefix sums of the rows of a table of words. -/
theorem row_cumsum {R N Nm1 : ℕ} (hN : Nm1 + 1 = N) (x : IVec (shape2 R N) 32) (f : ℕ → ℕ) (b : Fin R)
    (hx : ∀ i : Fin N, x (ix2 b i) = BitVec.ofNat 32 (f i.val)) (init : IVec shape0 32) (hinit : init ValueIdx.ix0 = 0#32)
    (h : (shape2 R N).ReduceWindows (![1, N] : Fin 2 → ℕ) ![1, 1] ![0, Nm1] ![0, 0] (shape2 R N))
    (h' : (shape2 1 N).ReduceWindows (![1, N] : Fin 2 → ℕ) ![1, 1] ![0, Nm1] ![0, 0] (shape2 1 N)) (hu : 0 < shape0.numel) (j : Fin N) :
    Host.reduceWindow IntOp.addi ![1, N] ![1, 1] ![0, Nm1] ![0, 0] x init h hu (ix2 b j)
      = BitVec.ofNat 32 ((List.range (j.val + 1)).map f).sum := by
  refine Eq.trans ?_ (cumsum2 hN (fun q => x (ix2 b (q 1))) f hx init hinit h' hu j)
  unfold Host.reduceWindow
  dsimp only
  refine congrArg (fun g => List.foldl g _ _) (funext fun r => funext fun n => congrArg (IntOp.addi r) ?_)
  have hb : b.val < R := b.isLt
  have hw : ((⟨2, ![1, N]⟩ : Shape).rowMajor.symm n 0).val = 0 := Nat.lt_one_iff.1 ((⟨2, ![1, N]⟩ : Shape).rowMajor.symm n 0).isLt
  split
  · next hin =>
    have h1 := hin 1
    rw [dif_pos (fun a => by
      match a with
      | ⟨0, _⟩ =>
        show 0 ≤ 0 * 1 + ((⟨2, ![1, N]⟩ : Shape).rowMajor.symm n 0).val ∧ 0 * 1 + ((⟨2, ![1, N]⟩ : Shape).rowMajor.symm n 0).val - 0 < 1
        omega
      | ⟨1, _⟩ => exact h1)]
    refine congrArg x (funext fun a => Fin.ext ?_)
    match a with
    | ⟨0, _⟩ =>
      show b.val * 1 + ((⟨2, ![1, N]⟩ : Shape).rowMajor.symm n 0).val - 0 = b.val
      omega
    | ⟨1, _⟩ => rfl
  · next hin =>
    rw [dif_neg fun hin' => hin fun a => by
      match a with
      | ⟨0, _⟩ =>
        show 0 ≤ b.val * 1 + ((⟨2, ![1, N]⟩ : Shape).rowMajor.symm n 0).val ∧ b.val * 1 + ((⟨2, ![1, N]⟩ : Shape).rowMajor.symm n 0).val - 0 < R
        omega
      | ⟨1, _⟩ => exact hin' 1]

variable (x : Nms.Rows) (b : Fin 4) (i : Fin 1024)

/-- The sum of the flags of the kept candidates before a candidate is its rank. -/
theorem rank_sum : ∑ j : Fin 1024, Ind.ind (Nms.kept x b j) * Ind.ind (j < i) = ((Nms.rank x b i : ℝ) : EReal) := by
  rw [Finset.sum_congr rfl fun j _ => Ind.ind_mul _ _, Ind.sum_card]
  unfold Nms.rank
  congr!

theorem rank_lt : ∑ j : Fin 1024, Ind.ind (Nms.kept x b j) * Ind.ind (j < i) < Ideal.ofBits .f32 0x43960000#32 ↔ Nms.rank x b i < 300 := by
  rw [rank_sum, Boxes.lit_cap, EReal.coe_lt_coe_iff]
  exact_mod_cast Iff.rfl

open Classical in
/-- The prefix sum of the flags at a kept candidate is one more than its rank. -/
theorem rank_prefix (h : Nms.kept x b i) (f : ℕ → ℕ) (hf : ∀ j : Fin 1024, f j.val = if Nms.kept x b j then 1 else 0) :
    ((List.range (i.val + 1)).map f).sum = Nms.rank x b i + 1 := by
  have hi : i.val < 1024 := i.isLt
  have e : ∀ n (hn : n ≤ 1024), ((List.range n).map f).sum = (Finset.univ.filter fun j : Fin 1024 => Nms.kept x b j ∧ j.val < n).card := by
    intro n hn
    induction n with
    | zero => simp
    | succ n ih =>
      rw [List.range_succ, List.map_append, List.sum_append, ih (by omega)]
      have hn' : f n = if Nms.kept x b ⟨n, by omega⟩ then 1 else 0 := hf ⟨n, by omega⟩
      by_cases hk : Nms.kept x b ⟨n, by omega⟩
      · rw [if_pos hk] at hn'
        have : (Finset.univ.filter fun j : Fin 1024 => Nms.kept x b j ∧ j.val < n + 1)
            = insert ⟨n, by omega⟩ (Finset.univ.filter fun j : Fin 1024 => Nms.kept x b j ∧ j.val < n) := by
          ext j
          simp only [Finset.mem_insert, Finset.mem_filter, Finset.mem_univ, true_and, Fin.ext_iff]
          constructor
          · rintro ⟨hj, hl⟩
            rcases Nat.lt_succ_iff_lt_or_eq.1 hl with h1 | h1
            · exact Or.inr ⟨hj, h1⟩
            · exact Or.inl h1
          · rintro (h1 | ⟨hj, h1⟩)
            · exact ⟨(Fin.ext h1 : j = ⟨n, by omega⟩) ▸ hk, by omega⟩
            · exact ⟨hj, by omega⟩
        rw [this, Finset.card_insert_of_notMem (by simp)]
        simp [hn']
      · rw [if_neg hk] at hn'
        have : (Finset.univ.filter fun j : Fin 1024 => Nms.kept x b j ∧ j.val < n + 1)
            = Finset.univ.filter fun j : Fin 1024 => Nms.kept x b j ∧ j.val < n := by
          ext j
          simp only [Finset.mem_filter, Finset.mem_univ, true_and]
          constructor
          · rintro ⟨hj, hl⟩
            refine ⟨hj, ?_⟩
            rcases Nat.lt_succ_iff_lt_or_eq.1 hl with h1 | h1
            · exact h1
            · exact absurd ((Fin.ext h1 : j = ⟨n, by omega⟩) ▸ hj) hk
          · rintro ⟨hj, h1⟩
            exact ⟨hj, by omega⟩
        rw [this]
        simp [hn']
  have hl : f i.val = 1 := by rw [hf i, if_pos h]
  rw [List.range_succ, List.map_append, List.sum_append, e i.val (by omega)]
  unfold Nms.rank
  simp only [List.map_cons, List.map_nil, List.sum_cons, List.sum_nil, hl, Nat.add_zero]
  rfl

end Cert.Tail

end

end
-- ==== Proof.KTail.lean ====
module

public import proofs.«01_k».proof.Proof.KRun
public import proofs.«01_k».proof.Proof.KLoop
public import proofs.«01_k».proof.Proof.Tail
public import Idealize.ShloMosaic.Lib.StableHlo.ReadAt

@[expose] public section

set_option maxRecDepth 16384

noncomputable section

namespace Cert.KernelIdeal.Run

open Idealize.ShloMosaic Idealize.ShloMosaic.TcCoe Idealize.SL Idealize.SL.Sem Idealize.ShloMosaic.Pointwise
open Cert.KernelIdeal Cert.KernelIdeal.Gen
/-! ## After the rounds -/

section Tail

variable (V : Valuation τ sig (Elt Ideal)) (x : Nms.Rows)

/-- The candidates, the kept ones and the order are in place. -/
structure Done : Prop extends Cands V x where
  keep : ∀ b i, (V (Proc.devRef .tc main_v64_1) : S4x1024.Idx → EReal) (ix2 b i) = Ind.ind (Nms.kept x b i)
  first : ∀ b j i, (V (Proc.devRef .tc main_v59) : S4x1024x1024.Idx → EReal) (ix3 b j i) = Ind.ind (j < i)

variable {V x}

theorem score_at (h : Done V x) (b : Fin 4) (i : Fin 1024) :
    (StableHlo.after hostOps1_6 (StableHlo.after hostOps1_5 V) (Proc.devRef .tc main_v72) : S4x1024.Idx → EReal) (ix2 b i) = Nms.score x b i := by
  classical
  simp only [hostOps1_6]
  after_reads_at
  simp only [id_eq]
  pointwise
  simp only [h.keep, h.first, h.value]
  rw [Ind.uitofp_ofBool, Ind.ind_mul]
  unfold Nms.score
  refine if_congr ?_ rfl rfl
  rw [Ind.ind_pos, Tail.rank_lt]

theorem place_word {w : BitVec 32} {r p : ℕ} (hr : r < 4) (hp : p < 262144) (hw : w = BitVec.ofNat 32 p) :
    (Scalar.select (IntOp.cmpi .slt (IntOp.addi (IntOp.muli (BitVec.ofNat 32 r) 262144#32) w) 0#32)
      (IntOp.addi (IntOp.addi (IntOp.muli (BitVec.ofNat 32 r) 262144#32) w) 1048576#32)
      (IntOp.addi (IntOp.muli (BitVec.ofNat 32 r) 262144#32) w)).toInt = ((r * 262144 + p : ℕ) : Int) := by
  have e : IntOp.addi (IntOp.muli (BitVec.ofNat 32 r) 262144#32) w = BitVec.ofNat 32 (r * 262144 + p) := by
    rw [hw]
    show BitVec.ofNat 32 r * BitVec.ofNat 32 262144 + BitVec.ofNat 32 p = _
    rw [← BitVec.ofNat_mul, ← BitVec.ofNat_add]
  rw [e, Routing.wrap_of_lt _ _ (by rw [BitVec.toNat_ofNat]; omega)]
  exact Boxes.toInt_word (by omega)

theorem done6 (h : Done V x) : Cands (StableHlo.after hostOps1_6 (StableHlo.after hostOps1_5 V)) x :=
  (h.toCands.congr (stay_hostOps1_5 V (by decide)) (stay_hostOps1_5 V (by decide))).congr (stay_hostOps1_6 _ (by decide)) (stay_hostOps1_6 _ (by decide))

theorem nms_at (h : Done V x) (b : Fin 4) (y z : Fin 512) (p : Fin 262144) (hp : p.val = y.val * 512 + z.val) :
    (StableHlo.after hostOps1_7 (StableHlo.after hostOps1_6 (StableHlo.after hostOps1_5 V)) (Proc.devRef .tc main_v89) : S4x512x512.Idx → EReal) (ix3 b y z)
      = Nms.nms x b p := by
  classical
  have hc := done6 h
  have hs := score_at h
  generalize (StableHlo.after hostOps1_6 (StableHlo.after hostOps1_5 V)) = W at hc hs ⊢
  simp only [hostOps1_7]
  after_reads_at
  unfold Nms.nms
  refine (Tail.scatter_flat (R := 4) (N := 1024) (P := 262144) rfl _ rfl rfl rfl _ _ _ (TopK.pos x) (Nms.score x) (fun i => ?_) (fun k r i hk => ?_)
    (fun k r i hk => ?_) b p _ ?_).trans ?_
  · idx_vars i
    pointwise
  · have hk1 : k.val / 1024 = r.val := by have := i.isLt; omega
    have hk2 : k.val % 1024 = i.val := by have := i.isLt; omega
    pointwise
    rw [show (⟨k.val / 1024, by have := r.isLt; omega⟩ : Fin 4) = r from Fin.ext hk1, show (⟨k.val % 1024, by omega⟩ : Fin 1024) = i from Fin.ext hk2, hk1]
    exact place_word r.isLt (TopK.pos x r i).isLt (hc.index r i)
  · have hk1 : k.val / 1024 = r.val := by have := i.isLt; omega
    have hk2 : k.val % 1024 = i.val := by have := i.isLt; omega
    rw [← hs r i]
    exact congrArg (W (Proc.devRef .tc main_v72) : S4x1024.Idx → EReal) (congr (congrArg ix2 (Fin.ext hk1)) (Fin.ext hk2))
  · rw [hp]
    exact Nat.add_assoc _ _ _
  · congr!

theorem mask_at (h : Done V x) (b : Fin 4) (y z : Fin 512) (p : Fin 262144) (hp : p.val = y.val * 512 + z.val) :
    (StableHlo.after hostOps1_7 (StableHlo.after hostOps1_6 (StableHlo.after hostOps1_5 V)) (Proc.devRef .tc main_v92) : S4x512x512.Idx → BitVec 32) (ix3 b y z)
      = (BitVec.setWidth 32 (BitVec.ofBool (@decide (Ideal.ofBits .f32 0x3C75C28F#32 ≤ Nms.nms x b p) (Classical.dec _))) : BitVec 32) := by
  classical
  rw [← nms_at h b y z p hp]
  generalize (StableHlo.after hostOps1_6 (StableHlo.after hostOps1_5 V)) = W
  simp only [hostOps1_7]
  after_reads_at

end Tail

variable (m : (ℓ : Loc nD τ sig) → Buf (Elt Ideal) ℓ) (c : Dev nD)

theorem ent_done : Cands (ent m c) (rows m c) := by
  rw [ent_eq]
  exact (coords (mid m c)).toCands.congr (stay_hostOps1_4 _ (by decide)) (stay_hostOps1_4 _ (by decide))

theorem out_stay {r : Ref sig .tc} (h : r ∉ W_while0Ops0) (h' : r ∉ W_cond) (n : ℕ) : out m n c (Proc.devRef .tc r) = ent m c (Proc.devRef .tc r) :=
  (stay_cond _ h').trans (rnd_stay m c h h' n)

theorem out_done (n : ℕ) (hk : ∀ (b : Fin 4) (i : Fin 1024),
    (out m n c (Proc.devRef .tc main_v64_1) : S4x1024.Idx → EReal) (ix2 b i) = Ind.ind (Nms.kept (rows m c) b i)) : Done (out m n c) (rows m c) where
  toCands := (ent_done m c).congr (out_stay m c (by decide) (by decide) n) (out_stay m c (by decide) (by decide) n)
  keep := hk
  first b j i := (congrFun (out_stay m c (by decide) (by decide) n) _).trans (by rw [ent_eq]; exact enter_first (coords _) b j i)

theorem fin_eq (n : ℕ) : fin m n c = StableHlo.after hostOps1_7 (StableHlo.after hostOps1_6 (StableHlo.after hostOps1_5 (out m n c))) := rfl

/-- What is written before the rounds and by nothing later. -/
theorem fin_first {r : Ref sig .tc} (h1 : r ∉ W_hostOps1_1) (h2 : r ∉ W_hostOps1_2) (h3 : r ∉ W_hostOps1_3) (h4 : r ∉ W_hostOps1_4)
    (h5 : r ∉ W_hostOps1_5) (h6 : r ∉ W_hostOps1_6) (h7 : r ∉ W_hostOps1_7) (hw : r ∉ W_while0Ops0) (hc : r ∉ W_cond) (n : ℕ) :
    fin m n c (Proc.devRef .tc r) = StableHlo.after hostOps1 (mid m c) (Proc.devRef .tc r) := by
  rw [fin_eq, stay_hostOps1_7 _ h7, stay_hostOps1_6 _ h6, stay_hostOps1_5 _ h5, out_stay m c hw hc, ent_eq, stay_hostOps1_4 _ h4, stay_hostOps1_3 _ h3,
    stay_hostOps1_2 _ h2, stay_hostOps1_1 _ h1]

end Cert.KernelIdeal.Run

end

end
-- ==== Proof.KFinal.lean ====
module

public import proofs.«01_k».proof.Proof.KRun
public import proofs.«01_k».proof.Proof.KTail
public import proofs.«01_k».proof.Proof.KArrays
public import Idealize.ShloMosaic.Lib.StableHlo.ReadAt

@[expose] public section

set_option maxRecDepth 16384

noncomputable section

namespace Cert.KernelIdeal.Run

open Idealize.ShloMosaic Idealize.ShloMosaic.TcCoe Idealize.SL Idealize.SL.Sem Idealize.ShloMosaic.Pointwise
open Cert.KernelIdeal Cert.KernelIdeal.Gen
/-! ## The four results and the arguments -/

variable (m : (ℓ : Loc nD τ sig) → Buf (Elt Ideal) ℓ)

abbrev argAt (c : Dev nD) (r : Ref sig .tc) := m ((c : Thread nD τ).loc r)

theorem mid5 (c : Dev nD) : mid m c (Proc.devRef .tc main_v8_0) = Block.lg m c :=
  (Pipeline.withArrays_arr spec0 (by decide) c (V0 m c) _ 5).trans (Block.arr5 m c)

theorem mid6 (c : Dev nD) : mid m c (Proc.devRef .tc main_v8_1) = Block.pr m c :=
  (Pipeline.withArrays_arr spec0 (by decide) c (V0 m c) _ 6).trans (Block.arr6 m c)

theorem logits_at (c : Dev nD) (b : Fin 4) (v : Fin 65) (y x : Fin 64) :
    (StableHlo.after hostOps1 (mid m c) (Proc.devRef .tc main_v10) : S4x65x64x64.Idx → EReal) (ix4 b v y x)
      = Spec.logits (m ((c : Thread nD τ).loc main_arg0)) (m ((c : Thread nD τ).loc main_arg1)) (m ((c : Thread nD τ).loc main_arg2))
          (m ((c : Thread nD τ).loc main_arg3)) (m ((c : Thread nD τ).loc main_arg4)) b y x v := by
  simp only [hostOps1]
  after_reads_at
  rw [mid5]
  show Spec.logits _ _ _ _ _ b ((y.val * 64 + x.val) / 64) ((y.val * 64 + x.val) % 64) v = _
  rw [show (y.val * 64 + x.val) / 64 = y.val from by omega, show (y.val * 64 + x.val) % 64 = x.val from by omega]

theorem pr_at (c : Dev nD) (b : Fin 4) (Y X : Fin 512) (p : Fin 4096) (k : Fin 64) (hp : p.val = Y.val / 8 * 64 + X.val / 8)
    (hk : k.val = Y.val % 8 * 8 + X.val % 8) :
    (mid m c (Proc.devRef .tc main_v8_1) : S4x4096x64.Idx → EReal) (ix3 b p k)
      = Spec.heat (m ((c : Thread nD τ).loc main_arg0)) (m ((c : Thread nD τ).loc main_arg1)) (m ((c : Thread nD τ).loc main_arg2))
          (m ((c : Thread nD τ).loc main_arg3)) (m ((c : Thread nD τ).loc main_arg4)) b Y X := by
  have e : (mid m c (Proc.devRef .tc main_v8_1) : S4x4096x64.Idx → EReal) = Block.pr m c := mid6 m c
  have hy : p.val / 64 = Y.val / 8 := by omega
  have hx : p.val % 64 = X.val / 8 := by omega
  rw [e]
  unfold Block.pr Spec.heat
  exact congr (congrArg Spec.soft (congr (congrArg _ hy) hx)) (Fin.ext hk)

theorem heat_at (c : Dev nD) (b : Fin 4) (Y X : Fin 512) :
    (StableHlo.after hostOps1 (mid m c) (Proc.devRef .tc main_v13) : S4x512x512.Idx → EReal) (ix3 b Y X)
      = Spec.heat (m ((c : Thread nD τ).loc main_arg0)) (m ((c : Thread nD τ).loc main_arg1)) (m ((c : Thread nD τ).loc main_arg2))
          (m ((c : Thread nD τ).loc main_arg3)) (m ((c : Thread nD τ).loc main_arg4)) b Y X := by
  simp only [hostOps1]
  after_reads_at
  exact pr_at m c b Y X _ _ rfl rfl

theorem place_of {y x q : ℕ} (hy : y = q / 512) (hx : x = q % 512) : q / 512 / 8 * 64 + q % 512 / 8 = y / 8 * 64 + x / 8 := by rw [hy, hx]
theorem bin_of {y x q : ℕ} (hy : y = q / 512) (hx : x = q % 512) : q / 512 % 8 * 8 + q % 512 % 8 = y % 8 * 8 + x % 8 := by rw [hy, hx]

/-- The rows are the heat map's. -/
theorem rows_at (c : Dev nD) (b : Fin 4) (p : Fin 262144) (Y X : Fin 512) (hy : Y.val = p.val / 512) (hx : X.val = p.val % 512) :
    rows m c (ix2 b p) = Spec.heat (m ((c : Thread nD τ).loc main_arg0)) (m ((c : Thread nD τ).loc main_arg1)) (m ((c : Thread nD τ).loc main_arg2))
          (m ((c : Thread nD τ).loc main_arg3)) (m ((c : Thread nD τ).loc main_arg4)) b Y X := by
  show (StableHlo.after hostOps1 (mid m c) (Proc.devRef .tc main_v14) : S4x262144.Idx → EReal) (ix2 b p) = _
  simp only [hostOps1]
  after_reads_at
  exact pr_at m c b Y X _ _ (place_of hy hx) (bin_of hy hx)

theorem mid_arg (c : Dev nD) : ∀ r : Ref sig .tc, r ∈ [main_arg0, main_arg1, main_arg2, main_arg3, main_arg4] →
    mid m c (Proc.devRef .tc r) = m ((c : Thread nD τ).loc r) := by
  intro r hr
  have hV : V0 m c (Proc.devRef .tc r) = m ((c : Thread nD τ).loc r) := by
    simp only [List.mem_cons, List.not_mem_nil, or_false] at hr
    rcases hr with rfl | rfl | rfl | rfl | rfl
    · exact V_main_arg0 m c
    · exact V_main_arg1 m c
    · exact V_main_arg2 m c
    · exact V_main_arg3 m c
    · exact V_main_arg4 m c
  refine Eq.trans ?_ hV
  refine Pipeline.withArrays_of_ne _ _ _ _ _ fun w => ?_
  simp only [List.mem_cons, List.not_mem_nil, or_false] at hr
  rcases hr with rfl | rfl | rfl | rfl | rfl <;> revert w <;> decide

theorem fin_arg (n : ℕ) (c : Dev nD) (r : Ref sig .tc) (hr : r ∈ [main_arg0, main_arg1, main_arg2, main_arg3, main_arg4]) :
    fin m n c (Proc.devRef .tc r) = m ((c : Thread nD τ).loc r) := by
  refine Eq.trans ?_ (mid_arg m c r hr)
  simp only [List.mem_cons, List.not_mem_nil, or_false] at hr
  rcases hr with rfl | rfl | rfl | rfl | rfl <;>
    exact (fin_first m c (by decide) (by decide) (by decide) (by decide) (by decide) (by decide) (by decide) (by decide) (by decide) n).trans
      (stay_hostOps1 _ (by decide))

/-- The logits of the given arguments, by index. -/
def logitsOf (c : Dev nD) (j : S4x65x64x64.Idx) : EReal :=
  Spec.logits (m ((c : Thread nD τ).loc main_arg0)) (m ((c : Thread nD τ).loc main_arg1)) (m ((c : Thread nD τ).loc main_arg2))
    (m ((c : Thread nD τ).loc main_arg3)) (m ((c : Thread nD τ).loc main_arg4)) (j 0) (j 2) (j 3) (j 1)

/-- The heat map of the given arguments, by index. -/
def heatOf (c : Dev nD) (j : S4x512x512.Idx) : EReal :=
  Spec.heat (m ((c : Thread nD τ).loc main_arg0)) (m ((c : Thread nD τ).loc main_arg1)) (m ((c : Thread nD τ).loc main_arg2))
    (m ((c : Thread nD τ).loc main_arg3)) (m ((c : Thread nD τ).loc main_arg4)) (j 0) (j 1) (j 2)

/-- The place of row `y`, column `x` in its batch's flat row. -/
def place (y x : Fin 512) : Fin 262144 := ⟨y.val * 512 + x.val, by have := y.isLt; have := x.isLt; omega⟩

/-- The suppressed heat map of the given arguments, by index. -/
def nmsOf (c : Dev nD) (j : S4x512x512.Idx) : EReal := Nms.nms (rows m c) (j 0) (place (j 1) (j 2))

/-- Its mask, by index. -/
def maskOf (c : Dev nD) (j : S4x512x512.Idx) : BitVec 32 :=
  BitVec.setWidth 32 (BitVec.ofBool (@decide (Ideal.ofBits .f32 0x3C75C28F#32 ≤ Nms.nms (rows m c) (j 0) (place (j 1) (j 2))) (Classical.dec _)))

theorem ext3 {α : Type} {f g : S4x512x512.Idx → α} (h : ∀ b y x, f (ix3 b y x) = g (ix3 b y x)) : f = g := by
  funext j
  obtain ⟨b, y, x, rfl⟩ : ∃ b y x, j = ix3 b y x := ⟨j 0, j 1, j 2, by funext a; fin_cases a <;> rfl⟩
  exact h b y x

theorem ext4 {α : Type} {f g : S4x65x64x64.Idx → α} (h : ∀ b v y x, f (ix4 b v y x) = g (ix4 b v y x)) : f = g := by
  funext j
  obtain ⟨b, v, y, x, rfl⟩ : ∃ b v y x, j = ix4 b v y x := ⟨j 0, j 1, j 2, j 3, by funext a; fin_cases a <;> rfl⟩
  exact h b v y x

/-- The whole run: the four results, the arguments and the counters. -/
theorem ends (g : Dev nD → PrngReg) : θ_run defs (onTc (τ := τ) (main (F := Ideal))) ⟨m, fun _ => 0, g⟩ (fun r => (∀ c : Dev nD,
      (∀ (b : Fin 4) (v : Fin 65) (y x : Fin 64), (r.2.mem ((c.tc : Thread nD τ).loc main_v10) : S4x65x64x64.Idx → EReal) (ix4 b v y x)
        = Spec.logits (m ((c : Thread nD τ).loc main_arg0)) (m ((c : Thread nD τ).loc main_arg1)) (m ((c : Thread nD τ).loc main_arg2))
          (m ((c : Thread nD τ).loc main_arg3)) (m ((c : Thread nD τ).loc main_arg4)) b y x v)
      ∧ (∀ (b : Fin 4) (y x : Fin 512), (r.2.mem ((c.tc : Thread nD τ).loc main_v13) : S4x512x512.Idx → EReal) (ix3 b y x)
        = Spec.heat (m ((c : Thread nD τ).loc main_arg0)) (m ((c : Thread nD τ).loc main_arg1)) (m ((c : Thread nD τ).loc main_arg2))
          (m ((c : Thread nD τ).loc main_arg3)) (m ((c : Thread nD τ).loc main_arg4)) b y x)
      ∧ (∀ (b : Fin 4) (y x : Fin 512) (p : Fin 262144), p.val = y.val * 512 + x.val →
        (r.2.mem ((c.tc : Thread nD τ).loc main_v89) : S4x512x512.Idx → EReal) (ix3 b y x) = Nms.nms (rows m c) b p)
      ∧ (∀ (b : Fin 4) (y x : Fin 512) (p : Fin 262144), p.val = y.val * 512 + x.val →
        (r.2.mem ((c.tc : Thread nD τ).loc main_v92) : S4x512x512.Idx → BitVec 32) (ix3 b y x)
          = (BitVec.setWidth 32 (BitVec.ofBool (@decide (Ideal.ofBits .f32 0x3C75C28F#32 ≤ Nms.nms (rows m c) b p) (Classical.dec _))) : BitVec 32))
      ∧ (∀ r' ∈ [main_arg0, main_arg1, main_arg2, main_arg3, main_arg4], r.2.mem ((c.tc : Thread nD τ).loc r') = m ((c.tc : Thread nD τ).loc r')))
      ∧ r.2.sem = fun _ => 0) := by
  obtain ⟨n, hn, hk⟩ := stops m
  refine (θ_run defs _ _).mono (fun r h => ⟨fun c => ?_, h.2⟩) (run m g n hn)
  have hd := out_done m c n (hk c)
  have first : ∀ r' ∈ [main_v10, main_v13], r.2.mem ((c.tc : Thread nD τ).loc r') = StableHlo.after hostOps1 (mid m c) (Proc.devRef .tc r') := by
    intro r' hr
    simp only [List.mem_cons, List.not_mem_nil, or_false] at hr
    rcases hr with rfl | rfl <;>
      exact (h.1 c _ (by decide)).trans
        (fin_first m c (by decide) (by decide) (by decide) (by decide) (by decide) (by decide) (by decide) (by decide) (by decide) n)
  refine ⟨fun b v y x => ?_, fun b y x => ?_, fun b y x p hp => ?_, fun b y x p hp => ?_, fun r' hr => ?_⟩
  · exact (congrFun (first main_v10 (by decide)) _).trans (logits_at m c b v y x)
  · exact (congrFun (first main_v13 (by decide)) _).trans (heat_at m c b y x)
  · exact (congrFun (h.1 c main_v89 (by decide)) _).trans (nms_at hd b y x p hp)
  · exact (congrFun (h.1 c main_v92 (by decide)) _).trans (mask_at hd b y x p hp)
  · refine (h.1 c r' ?_).trans (fin_arg m n c r' hr)
    simp only [List.mem_cons, List.not_mem_nil, or_false] at hr
    rcases hr with rfl | rfl | rfl | rfl | rfl <;> decide

end Cert.KernelIdeal.Run

end

end
-- ==== Proof.RefVal.lean ====
module

public import proofs.«01_k».proof.Proof.Gen.ReferenceIdeal.Run
public import proofs.«01_k».proof.Proof.RefHead
public import proofs.«01_k».proof.Proof.Tail
public import proofs.«01_k».proof.Proof.Nms
public import Idealize.ShloMosaic.Lib.StableHlo.ReadAt

@[expose] public section

set_option maxRecDepth 16384

noncomputable section

namespace Cert.ReferenceIdeal.Run

open Idealize.ShloMosaic Idealize.ShloMosaic.TcCoe Idealize.SL Idealize.SL.Sem Idealize.ShloMosaic.Pointwise
open Cert.ReferenceIdeal Cert.ReferenceIdeal.Gen

open Cert.ReferenceIdeal.Value
open Cert.HeadReferenceIdeal.Read (val_main_v0 val_main_v58 val_main_v59 val_main_v65 val_main_v80)

variable (V : Valuation τ sig (Elt Ideal))

theorem stay_hostOps0 {r : Ref sig .tc} (h : r ∉ hostOps0_W) : StableHlo.after hostOps0 V (Proc.devRef .tc r) = V (Proc.devRef .tc r) :=
  StableHlo.after_of_writes_sub hostOps0 V hostOps0_writes h

theorem stay_hostOps0_1 {r : Ref sig .tc} (h : r ∉ hostOps0_1_W) : StableHlo.after hostOps0_1 V (Proc.devRef .tc r) = V (Proc.devRef .tc r) :=
  StableHlo.after_of_writes_sub hostOps0_1 V hostOps0_1_writes h

theorem stay_hostOps0_2 {r : Ref sig .tc} (h : r ∉ hostOps0_2_W) : StableHlo.after hostOps0_2 V (Proc.devRef .tc r) = V (Proc.devRef .tc r) :=
  StableHlo.after_of_writes_sub hostOps0_2 V hostOps0_2_writes h

theorem stay_hostOps0_3 {r : Ref sig .tc} (h : r ∉ hostOps0_3_W) : StableHlo.after hostOps0_3 V (Proc.devRef .tc r) = V (Proc.devRef .tc r) :=
  StableHlo.after_of_writes_sub hostOps0_3 V hostOps0_3_writes h

theorem stay_hostOps0_4 {r : Ref sig .tc} (h : r ∉ hostOps0_4_W) : StableHlo.after hostOps0_4 V (Proc.devRef .tc r) = V (Proc.devRef .tc r) :=
  StableHlo.after_of_writes_sub hostOps0_4 V hostOps0_4_writes h

theorem stay_hostOps0_5 {r : Ref sig .tc} (h : r ∉ hostOps0_5_W) : StableHlo.after hostOps0_5 V (Proc.devRef .tc r) = V (Proc.devRef .tc r) :=
  StableHlo.after_of_writes_sub hostOps0_5 V hostOps0_5_writes h

theorem stay_hostOps0_6 {r : Ref sig .tc} (h : r ∉ hostOps0_6_W) : StableHlo.after hostOps0_6 V (Proc.devRef .tc r) = V (Proc.devRef .tc r) :=
  StableHlo.after_of_writes_sub hostOps0_6 V hostOps0_6_writes h

theorem stay_hostOps0_7 {r : Ref sig .tc} (h : r ∉ hostOps0_7_W) : StableHlo.after hostOps0_7 V (Proc.devRef .tc r) = V (Proc.devRef .tc r) :=
  StableHlo.after_of_writes_sub hostOps0_7 V hostOps0_7_writes h

theorem stay_hostOps0_8 {r : Ref sig .tc} (h : r ∉ hostOps0_8_W) : StableHlo.after hostOps0_8 V (Proc.devRef .tc r) = V (Proc.devRef .tc r) :=
  StableHlo.after_of_writes_sub hostOps0_8 V hostOps0_8_writes h

abbrev W_hostOps0_9 : List (Ref sig .tc) := [main_v104, main_v105]

theorem stay_hostOps0_9 {r : Ref sig .tc} (h : r ∉ W_hostOps0_9) : StableHlo.after hostOps0_9 V (Proc.devRef .tc r) = V (Proc.devRef .tc r) :=
  StableHlo.after_of_writes_sub hostOps0_9 V (StableHlo.forall_writes_sub_of_map rfl) h

abbrev W_hostOps0_10 : List (Ref sig .tc) := [main_call6_call0_c, main_call6_call0_v0, main_v106]

theorem stay_hostOps0_10 {r : Ref sig .tc} (h : r ∉ W_hostOps0_10) : StableHlo.after hostOps0_10 V (Proc.devRef .tc r) = V (Proc.devRef .tc r) :=
  StableHlo.after_of_writes_sub hostOps0_10 V (StableHlo.forall_writes_sub_of_map rfl) h

abbrev W_hostOps0_11 : List (Ref sig .tc) := [main_c_13, main_v107, main_v108, main_v109, main_cst_14, main_v110, main_v111, main_v112, main_cst_15]

theorem stay_hostOps0_11 {r : Ref sig .tc} (h : r ∉ W_hostOps0_11) : StableHlo.after hostOps0_11 V (Proc.devRef .tc r) = V (Proc.devRef .tc r) :=
  StableHlo.after_of_writes_sub hostOps0_11 V (StableHlo.forall_writes_sub_of_map rfl) h

abbrev W_hostOps0_12 : List (Ref sig .tc) := [main_call7_v0, main_call7_v1, main_v113]

theorem stay_hostOps0_12 {r : Ref sig .tc} (h : r ∉ W_hostOps0_12) : StableHlo.after hostOps0_12 V (Proc.devRef .tc r) = V (Proc.devRef .tc r) :=
  StableHlo.after_of_writes_sub hostOps0_12 V (StableHlo.forall_writes_sub_of_map rfl) h

abbrev W_hostOps0_13 : List (Ref sig .tc) := [main_c_16, main_v114, main_v115, main_c_17, main_v116, main_v117, main_v118, main_c_18, main_v119, main_v120, main_c_19, main_v121, main_v122, main_v123, main_v124, main_v125, main_v126, main_v127, main_v128, main_v129, main_cst_20, main_v130, main_v131, main_v132]

theorem stay_hostOps0_13 {r : Ref sig .tc} (h : r ∉ W_hostOps0_13) : StableHlo.after hostOps0_13 V (Proc.devRef .tc r) = V (Proc.devRef .tc r) :=
  StableHlo.after_of_writes_sub hostOps0_13 V (StableHlo.forall_writes_sub_of_map rfl) h

/-! ## The two convolutions and the heat map -/

theorem bordered : (StableHlo.after hostOps0_1 (StableHlo.after hostOps0 V) (Proc.devRef .tc main_v0) : S4x128x66x66.Idx → EReal)
    = val_main_v0 (F := Ideal) (V (Proc.devRef .tc main_arg0)) := by
  simp only [hostOps0, hostOps0_1]
  after_reads_simp
  rfl

theorem conv (a : S4x128x64x64.Idx → EReal) (h : (V (Proc.devRef .tc main_v0) : S4x128x66x66.Idx → EReal) = val_main_v0 (F := Ideal) a) :
    (StableHlo.after hostOps0_2 V (Proc.devRef .tc main_v58) : S4x256x64x64.Idx → EReal)
    = val_main_v58 (F := Ideal) a (V (Proc.devRef .tc main_arg1)) (V (Proc.devRef .tc main_arg2)) := by
  simp only [hostOps0_2]
  after_reads_simp
  rw [h]
  rfl

theorem relu : (StableHlo.after hostOps0_3 V (Proc.devRef .tc main_v59) : S4x256x64x64.Idx → EReal)
    = maximumf (F := Ideal) (φ := .f32) (V (Proc.devRef .tc main_v58) : S4x256x64x64.Idx → EReal)
        (broadcastInDim S4x256x64x64 ![] bcast_S_S4x256x64x64 (constant (F := Ideal) S_ .f32 0x00000000#32)) := by
  simp only [hostOps0_3]
  after_reads_simp
  rfl

theorem second (a : S4x128x64x64.Idx → EReal) (w : S256x128x3x3.Idx → EReal) (u : S256.Idx → EReal)
    (h : (V (Proc.devRef .tc main_v59) : S4x256x64x64.Idx → EReal) = val_main_v59 (F := Ideal) a w u) :
    (StableHlo.after hostOps0_4 V (Proc.devRef .tc main_v65) : S4x65x64x64.Idx → EReal)
    = val_main_v65 (F := Ideal) a w u (V (Proc.devRef .tc main_arg3)) (V (Proc.devRef .tc main_arg4)) := by
  simp only [hostOps0_4]
  after_reads_simp
  rw [h]
  rfl

theorem heated (a : S4x128x64x64.Idx → EReal) (w : S256x128x3x3.Idx → EReal) (u : S256.Idx → EReal)
    (h : (V (Proc.devRef .tc main_v59) : S4x256x64x64.Idx → EReal) = val_main_v59 (F := Ideal) a w u) :
    (StableHlo.after hostOps0_4 V (Proc.devRef .tc main_v80) : S4x512x512.Idx → EReal)
    = val_main_v80 (F := Ideal) a w u (V (Proc.devRef .tc main_arg3)) (V (Proc.devRef .tc main_arg4)) := by
  simp only [hostOps0_4]
  after_reads_simp
  rw [h]
  rfl

theorem rows_eq : (StableHlo.after hostOps0_4 V (Proc.devRef .tc main_v81) : S4x262144.Idx → EReal)
    = shapeCast S4x262144 (StableHlo.after hostOps0_4 V (Proc.devRef .tc main_v80) : S4x512x512.Idx → EReal) shapeCasts_S4x512x512_S4x262144 := by
  simp only [hostOps0_4]
  after_reads_simp
  rfl

theorem top_values : (StableHlo.after hostOps0_4 V (Proc.devRef .tc main_values) : S4x1024.Idx → EReal)
    = (Host.topK S4x1024 1 (FloatOps.cmpfTotal (F := Ideal) (φ := .f32) .gt) (StableHlo.after hostOps0_4 V (Proc.devRef .tc main_v81) : S4x262144.Idx → EReal) sliceFits_S4x262144_S4x1024).1 := by
  simp only [hostOps0_4]
  after_reads_simp

theorem top_indices : (StableHlo.after hostOps0_4 V (Proc.devRef .tc main_indices) : S4x1024.Idx → BitVec 32)
    = (Host.topK S4x1024 1 (FloatOps.cmpfTotal (F := Ideal) (φ := .f32) .gt) (StableHlo.after hostOps0_4 V (Proc.devRef .tc main_v81) : S4x262144.Idx → EReal) sliceFits_S4x262144_S4x1024).2 := by
  simp only [hostOps0_4]
  after_reads_simp

theorem enough : (StableHlo.after hostOps0_4 V (Proc.devRef .tc main_v83) : S4x1024.Idx → BitVec 1)
    = cmpf (F := Ideal) (φ := .f32) .oge (StableHlo.after hostOps0_4 V (Proc.devRef .tc main_values) : S4x1024.Idx → EReal)
        (broadcastInDim S4x1024 ![] bcast_S_S4x1024 (constant (F := Ideal) S_ .f32 0x3C75C28F#32)) := by
  simp only [hostOps0_4]
  after_reads_simp

theorem c4_at : (StableHlo.after hostOps0_4 V (Proc.devRef .tc main_c_4) : S_.Idx → BitVec 32) ix0 = (512#32 : BitVec 32) := by
  simp only [hostOps0_4]
  after_reads_at

/-! ## Rows and columns -/

theorem div_at (b : Fin 4) (i : Fin 1024) : (StableHlo.after hostOps0_5 V (Proc.devRef .tc main_v84) : S4x1024.Idx → BitVec 32) (ix2 b i)
    = Boxes.fdiv ((V (Proc.devRef .tc main_indices) : S4x1024.Idx → BitVec 32) (ix2 b i)) ((V (Proc.devRef .tc main_c_4) : S_.Idx → BitVec 32) ix0) := by
  simp only [hostOps0_5]
  after_reads_at
  simp only [id_eq]
  pointwise
  rfl

theorem mod_at (b : Fin 4) (i : Fin 1024) : (StableHlo.after hostOps0_7 V (Proc.devRef .tc main_v86) : S4x1024.Idx → BitVec 32) (ix2 b i)
    = Boxes.fmod ((V (Proc.devRef .tc main_indices) : S4x1024.Idx → BitVec 32) (ix2 b i)) ((V (Proc.devRef .tc main_c_5) : S_.Idx → BitVec 32) ix0) := by
  simp only [hostOps0_7]
  after_reads_at
  simp only [id_eq]
  pointwise
  rfl

theorem c5_at : (StableHlo.after hostOps0_6 V (Proc.devRef .tc main_c_5) : S_.Idx → BitVec 32) ix0 = (512#32 : BitVec 32) := by
  simp only [hostOps0_6]
  after_reads_at

theorem v85_at (b : Fin 4) (i : Fin 1024) : (StableHlo.after hostOps0_6 V (Proc.devRef .tc main_v85) : S4x1024.Idx → EReal) (ix2 b i)
    = (FloatOps.sitofp (F := Ideal) .f32 ((V (Proc.devRef .tc main_v84) : S4x1024.Idx → BitVec 32) (ix2 b i)) : EReal) := by
  simp only [hostOps0_6]
  after_reads_at

/-! ## The loop's buffers on entry -/

theorem e1 : (StableHlo.after hostOps0_8 V (Proc.devRef .tc main_v103_1) : S4x1024.Idx → BitVec 1) = (V (Proc.devRef .tc main_v83) : S4x1024.Idx → BitVec 1) := by
  simp only [hostOps0_8]
  after_reads_simp
  rfl

theorem e2 (b : Fin 4) (i : Fin 1024) : (StableHlo.after hostOps0_8 V (Proc.devRef .tc main_v103_2) : S4x1024.Idx → EReal) (ix2 b i)
    = (FloatOps.sitofp (F := Ideal) .f32 ((V (Proc.devRef .tc main_v86) : S4x1024.Idx → BitVec 32) (ix2 b i)) - Ideal.ofBits .f32 0x40000000#32 : EReal) := by
  simp only [hostOps0_8]
  after_reads_at
  simp only [id_eq]
  pointwise

theorem e3 (b : Fin 4) (i : Fin 1024) (u : EReal) (h : (V (Proc.devRef .tc main_v85) : S4x1024.Idx → EReal) (ix2 b i) = u) :
    (StableHlo.after hostOps0_8 V (Proc.devRef .tc main_v103_3) : S4x1024.Idx → EReal) (ix2 b i) = u - Ideal.ofBits .f32 0x40000000#32 := by
  simp only [hostOps0_8]
  after_reads_at
  simp only [id_eq]
  pointwise
  rw [h]

theorem e4 (b : Fin 4) (i : Fin 1024) : (StableHlo.after hostOps0_8 V (Proc.devRef .tc main_v103_4) : S4x1024.Idx → EReal) (ix2 b i)
    = (FloatOps.sitofp (F := Ideal) .f32 ((V (Proc.devRef .tc main_v86) : S4x1024.Idx → BitVec 32) (ix2 b i)) + Ideal.ofBits .f32 0x40000000#32 : EReal) := by
  simp only [hostOps0_8]
  after_reads_at
  simp only [id_eq]
  pointwise

theorem e5 (b : Fin 4) (i : Fin 1024) (u : EReal) (h : (V (Proc.devRef .tc main_v85) : S4x1024.Idx → EReal) (ix2 b i) = u) :
    (StableHlo.after hostOps0_8 V (Proc.devRef .tc main_v103_5) : S4x1024.Idx → EReal) (ix2 b i) = u + Ideal.ofBits .f32 0x40000000#32 := by
  simp only [hostOps0_8]
  after_reads_at
  simp only [id_eq]
  pointwise
  rw [h]

theorem e6 (b : Fin 4) (i : Fin 1024) (u w : EReal) (h : (V (Proc.devRef .tc main_v85) : S4x1024.Idx → EReal) (ix2 b i) = u)
    (h' : (FloatOps.sitofp (F := Ideal) .f32 ((V (Proc.devRef .tc main_v86) : S4x1024.Idx → BitVec 32) (ix2 b i)) : EReal) = w) :
    (StableHlo.after hostOps0_8 V (Proc.devRef .tc main_v103_6) : S4x1024.Idx → EReal) (ix2 b i)
    = ((w + Ideal.ofBits .f32 0x40000000#32) - (w - Ideal.ofBits .f32 0x40000000#32)) * ((u + Ideal.ofBits .f32 0x40000000#32) - (u - Ideal.ofBits .f32 0x40000000#32)) := by
  simp only [hostOps0_8]
  after_reads_at
  simp only [id_eq]
  pointwise
  rw [h, h']

theorem e7 (i : Fin 1024) : (StableHlo.after hostOps0_8 V (Proc.devRef .tc main_v103_7) : S1024.Idx → BitVec 32) (ix1 i) = (BitVec.ofNat 32 i.val : BitVec 32) := by
  simp only [hostOps0_8]
  after_reads_at
  simp only [id_eq]
  pointwise

theorem e0 (i : Fin 1024) : (StableHlo.after hostOps0_8 V (Proc.devRef .tc main_v103_0) : S1024.Idx → BitVec 32) (ix1 i) = (BitVec.ofNat 32 i.val : BitVec 32) := by
  simp only [hostOps0_8]
  after_reads_at
  simp only [id_eq]
  pointwise

theorem e9 (b : Fin 4) (i : Fin 1024) : (StableHlo.after hostOps0_8 V (Proc.devRef .tc main_v103_9) : S4x1024.Idx → BitVec 1) (ix2 b i) = (0#1 : BitVec 1) := by
  simp only [hostOps0_8]
  after_reads_at
  simp only [id_eq]
  pointwise

/-! ## Together -/

/-- After the first convolution. -/
abbrev stA := StableHlo.after hostOps0_3 (StableHlo.after hostOps0_2 (StableHlo.after hostOps0_1 (StableHlo.after hostOps0 V)))
/-- After the candidates are chosen. -/
abbrev stB := StableHlo.after hostOps0_4 (stA V)
/-- After their rows and columns. -/
abbrev stC := StableHlo.after hostOps0_7 (StableHlo.after hostOps0_6 (StableHlo.after hostOps0_5 (stB V)))
/-- When the loop is entered. -/
abbrev stD := StableHlo.after hostOps0_8 (stC V)

theorem stA_stay {r : Ref sig .tc} (h0 : r ∉ hostOps0_W) (h1 : r ∉ hostOps0_1_W) (h2 : r ∉ hostOps0_2_W) (h3 : r ∉ hostOps0_3_W) :
    stA V (Proc.devRef .tc r) = V (Proc.devRef .tc r) := by
  exact (stay_hostOps0_3 _ h3).trans ((stay_hostOps0_2 _ h2).trans ((stay_hostOps0_1 _ h1).trans (stay_hostOps0 _ h0)))

theorem stC_stay {r : Ref sig .tc} (h5 : r ∉ hostOps0_5_W) (h6 : r ∉ hostOps0_6_W) (h7 : r ∉ hostOps0_7_W) :
    stC V (Proc.devRef .tc r) = stB V (Proc.devRef .tc r) := by
  exact (stay_hostOps0_7 _ h7).trans ((stay_hostOps0_6 _ h6).trans (stay_hostOps0_5 _ h5))

theorem stA_v59 : (stA V (Proc.devRef .tc main_v59) : S4x256x64x64.Idx → EReal)
    = val_main_v59 (F := Ideal) (V (Proc.devRef .tc main_arg0)) (V (Proc.devRef .tc main_arg1)) (V (Proc.devRef .tc main_arg2)) := by
  refine (relu _).trans ?_
  rw [conv _ _ (bordered V)]
  rw [show StableHlo.after hostOps0_1 (StableHlo.after hostOps0 V) (Proc.devRef .tc main_arg1) = V (Proc.devRef .tc main_arg1) from
      (stay_hostOps0_1 _ (by decide)).trans (stay_hostOps0 _ (by decide)),
    show StableHlo.after hostOps0_1 (StableHlo.after hostOps0 V) (Proc.devRef .tc main_arg2) = V (Proc.devRef .tc main_arg2) from
      (stay_hostOps0_1 _ (by decide)).trans (stay_hostOps0 _ (by decide))]
  rfl

theorem logits_at (b : Fin 4) (v : Fin 65) (y x : Fin 64) : (stB V (Proc.devRef .tc main_v65) : S4x65x64x64.Idx → EReal) (ix4 b v y x)
    = Spec.logits (V (Proc.devRef .tc main_arg0)) (V (Proc.devRef .tc main_arg1)) (V (Proc.devRef .tc main_arg2)) (V (Proc.devRef .tc main_arg3))
        (V (Proc.devRef .tc main_arg4)) b y x v := by
  refine (congrFun (second _ _ _ _ (stA_v59 V)) _).trans ?_
  rw [stA_stay V (r := main_arg3) (by decide) (by decide) (by decide) (by decide),
    stA_stay V (r := main_arg4) (by decide) (by decide) (by decide) (by decide)]
  exact Cert.HeadReferenceIdeal.Val.v65_apply _ _ _ _ _ b v y x

theorem heat_at (b : Fin 4) (Y X : Fin 512) : (stB V (Proc.devRef .tc main_v80) : S4x512x512.Idx → EReal) (ix3 b Y X)
    = Spec.heat (V (Proc.devRef .tc main_arg0)) (V (Proc.devRef .tc main_arg1)) (V (Proc.devRef .tc main_arg2)) (V (Proc.devRef .tc main_arg3))
        (V (Proc.devRef .tc main_arg4)) b Y X := by
  refine (congrFun (heated _ _ _ _ (stA_v59 V)) _).trans ?_
  rw [stA_stay V (r := main_arg3) (by decide) (by decide) (by decide) (by decide),
    stA_stay V (r := main_arg4) (by decide) (by decide) (by decide) (by decide)]
  exact Cert.HeadReferenceIdeal.Val.v80_apply _ _ _ _ _ b Y X

/-- The rows the candidates are taken from. -/
def hf : Nms.Rows := (stB V (Proc.devRef .tc main_v81) : S4x262144.Idx → EReal)

theorem flat_at (z : S4x512x512.Idx → EReal) (b : Fin 4) (p : Fin 262144) (Y X : Fin 512) (hy : p.val / 512 = Y.val) (hx : p.val % 512 = X.val) :
    shapeCast S4x262144 z shapeCasts_S4x512x512_S4x262144 (ix2 b p) = z (ix3 b Y X) := by
  pointwise
  exact congrArg z (congr (congrArg (ix3 b) (Fin.ext hy)) (Fin.ext hx))

theorem hf_at (b : Fin 4) (p : Fin 262144) (Y X : Fin 512) (hy : Y.val = p.val / 512) (hx : X.val = p.val % 512) : hf V (ix2 b p)
    = Spec.heat (V (Proc.devRef .tc main_arg0)) (V (Proc.devRef .tc main_arg1)) (V (Proc.devRef .tc main_arg2)) (V (Proc.devRef .tc main_arg3))
        (V (Proc.devRef .tc main_arg4)) b Y X := by
  refine (congrFun (rows_eq (stA V)) _).trans ((flat_at _ b p Y X hy.symm hx.symm).trans (heat_at V b Y X))

/-- The candidates are those of the rows `x`. -/
structure Cands (x : Nms.Rows) : Prop where
  value : ∀ b i, (V (Proc.devRef .tc main_values) : S4x1024.Idx → EReal) (ix2 b i) = TopK.val x b i
  index : ∀ b i, (V (Proc.devRef .tc main_indices) : S4x1024.Idx → BitVec 32) (ix2 b i) = BitVec.ofNat 32 (TopK.pos x b i).val

variable {V} in
theorem Cands.congr {x : Nms.Rows} {W : Valuation τ sig (Elt Ideal)} (h : Cands V x)
    (h0 : W (Proc.devRef .tc main_values) = V (Proc.devRef .tc main_values)) (h1 : W (Proc.devRef .tc main_indices) = V (Proc.devRef .tc main_indices)) :
    Cands W x where
  value b i := (congrFun h0 _).trans (h.value b i)
  index b i := (congrFun h1 _).trans (h.index b i)

theorem candsB : Cands (stB V) (hf V) where
  value b i := (congrFun (top_values (stA V)) _).trans (TopK.topK_val _ _ b i)
  index b i := (congrFun (top_indices (stA V)) _).trans (TopK.topK_pos _ _ b i)

theorem enough_at (z : S4x1024.Idx → EReal) (b : Fin 4) (i : Fin 1024) (t : EReal) (h : z (ix2 b i) = t) :
    cmpf (F := Ideal) (φ := .f32) .oge z (broadcastInDim S4x1024 ![] bcast_S_S4x1024 (constant (F := Ideal) S_ .f32 0x3C75C28F#32)) (ix2 b i)
      = BitVec.ofBool (@decide (Ideal.ofBits .f32 0x3C75C28F#32 ≤ t) (Classical.dec _)) := by
  pointwise
  rw [h]
  congr!

theorem valid_at (b : Fin 4) (i : Fin 1024) : (stB V (Proc.devRef .tc main_v83) : S4x1024.Idx → BitVec 1) (ix2 b i)
    = BitVec.ofBool (@decide (Nms.valid (hf V) b i) (Classical.dec _)) :=
  (congrFun (enough (stA V)) _).trans (enough_at _ b i _ ((candsB V).value b i))

theorem row_at (b : Fin 4) (i : Fin 1024) : (stC V (Proc.devRef .tc main_v85) : S4x1024.Idx → EReal) (ix2 b i)
    = ((((TopK.pos (hf V) b i).val / 512 : ℕ) : ℝ) : EReal) := by
  have hp : (TopK.pos (hf V) b i).val < 262144 := (TopK.pos (hf V) b i).isLt
  refine (congrFun (stay_hostOps0_7 _ (by decide)) _).trans ((v85_at _ b i).trans ?_)
  rw [div_at, (candsB V).index, show (stB V (Proc.devRef .tc main_c_4) : S_.Idx → BitVec 32) ix0 = (512#32 : BitVec 32) from c4_at _, Boxes.fdiv_word hp, Boxes.sitofp_word (by omega)]

theorem col_at (b : Fin 4) (i : Fin 1024) : (FloatOps.sitofp (F := Ideal) .f32 ((stC V (Proc.devRef .tc main_v86) : S4x1024.Idx → BitVec 32) (ix2 b i)) : EReal)
    = ((((TopK.pos (hf V) b i).val % 512 : ℕ) : ℝ) : EReal) := by
  have hp : (TopK.pos (hf V) b i).val < 262144 := (TopK.pos (hf V) b i).isLt
  refine (congrArg (FloatOps.sitofp (F := Ideal) .f32) (mod_at _ b i)).trans ?_
  rw [c5_at, stay_hostOps0_6 _ (r := main_indices) (by decide), stay_hostOps0_5 _ (r := main_indices) (by decide), (candsB V).index, Boxes.fmod_word hp, Boxes.sitofp_word (by omega)]

/-- The loop's buffers that never change. -/
structure Fixed (x : Nms.Rows) : Prop where
  f0 : ∀ i : Fin 1024, (V (Proc.devRef .tc main_v103_0) : S1024.Idx → BitVec 32) (ix1 i) = BitVec.ofNat 32 i.val
  f1 : ∀ b i, (V (Proc.devRef .tc main_v103_1) : S4x1024.Idx → BitVec 1) (ix2 b i) = BitVec.ofBool (@decide (Nms.valid x b i) (Classical.dec _))
  f2 : ∀ b i, (V (Proc.devRef .tc main_v103_2) : S4x1024.Idx → EReal) (ix2 b i) = ((((TopK.pos x b i).val % 512 : ℕ) : ℝ) : EReal) - Ideal.ofBits .f32 0x40000000#32
  f3 : ∀ b i, (V (Proc.devRef .tc main_v103_3) : S4x1024.Idx → EReal) (ix2 b i) = ((((TopK.pos x b i).val / 512 : ℕ) : ℝ) : EReal) - Ideal.ofBits .f32 0x40000000#32
  f4 : ∀ b i, (V (Proc.devRef .tc main_v103_4) : S4x1024.Idx → EReal) (ix2 b i) = ((((TopK.pos x b i).val % 512 : ℕ) : ℝ) : EReal) + Ideal.ofBits .f32 0x40000000#32
  f5 : ∀ b i, (V (Proc.devRef .tc main_v103_5) : S4x1024.Idx → EReal) (ix2 b i) = ((((TopK.pos x b i).val / 512 : ℕ) : ℝ) : EReal) + Ideal.ofBits .f32 0x40000000#32
  f6 : ∀ b i, (V (Proc.devRef .tc main_v103_6) : S4x1024.Idx → EReal) (ix2 b i) = ((16 : ℝ) : EReal)
  f7 : ∀ i : Fin 1024, (V (Proc.devRef .tc main_v103_7) : S1024.Idx → BitVec 32) (ix1 i) = BitVec.ofNat 32 i.val

theorem fixedD : Fixed (stD V) (hf V) where
  f0 := e0 _
  f1 b i := (congrFun (e1 _) _).trans ((congrFun (stC_stay V (by decide) (by decide) (by decide)) _).trans (valid_at V b i))
  f2 b i := (e2 _ b i).trans (congrArg (· - Ideal.ofBits .f32 0x40000000#32) (col_at V b i))
  f3 b i := e3 _ b i _ (row_at V b i)
  f4 b i := (e4 _ b i).trans (congrArg (· + Ideal.ofBits .f32 0x40000000#32) (col_at V b i))
  f5 b i := e5 _ b i _ (row_at V b i)
  f6 b i := (e6 _ b i _ _ (row_at V b i) (col_at V b i)).trans (Boxes.area _ _)
  f7 := e7 _

end Cert.ReferenceIdeal.Run

end

end
-- ==== Proof.RefLoop.lean ====
module

public import proofs.«01_k».proof.Proof.RefVal
public import proofs.«01_k».proof.Proof.Tail
public import proofs.«01_k».proof.Proof.Nms
public import Idealize.ShloMosaic.Lib.StableHlo.ReadAt
public import Idealize.ShloMosaic.Lib.DynamicIndex

@[expose] public section

set_option maxRecDepth 16384

noncomputable section

namespace Cert.ReferenceIdeal.Run

open Idealize.ShloMosaic Idealize.ShloMosaic.TcCoe Idealize.SL Idealize.SL.Sem Idealize.ShloMosaic.Pointwise
open Cert.ReferenceIdeal Cert.ReferenceIdeal.Gen

open Cert.ReferenceIdeal.Value

variable {V : Valuation τ sig (Elt Ideal)} {x : Nms.Rows} {k : ℕ}

/-! ## One trip -/

theorem ctr_read (z : S1024.Idx → BitVec 32) (t : S_.Idx → BitVec 32) (hk : k < 1024) (ht : t = fun _ => BitVec.ofNat 32 k) (i : S1.Idx) :
    Host.dynamicSlice S1 z (fun a => (((![t] : Fin 1 → S_.Idx → BitVec 32)) a (Shape.Idx.first h_S_)).toInt) sliceFits_S1024_S1 i
      = z (ix1 ⟨k, hk⟩) := by
  subst ht
  rw [Host.dynamicSlice_eq_extractStridedSlice S1 z _ ![k] _ ⟨rfl, fun a => by
    obtain rfl : a = 0 := Subsingleton.elim _ _
    show k + 1 ≤ 1024
    omega⟩ (fun a => by
    obtain rfl : a = 0 := Subsingleton.elim _ _
    exact Boxes.toInt_word (by omega))]
  idx_vars i
  pointwise

theorem col_read {α : Type} (z : S4x1024.Idx → α) (t : S_.Idx → BitVec 32) (hk : k < 1024) (ht : t = fun _ => BitVec.ofNat 32 k) :
    Host.dynamicSlice S4x1 z (fun a => (((![constantI S_ 32 0#32, select (cmpi .slt t (constantI S_ 32 0#32)) (addi t (constantI S_ 32 1024#32)) t] : Fin 2 → S_.Idx → BitVec 32)) a (Shape.Idx.first h_S_)).toInt) sliceFits_S4x1024_S4x1
      = fun q => z (ix2 (q 0) ⟨k, hk⟩) := by
  subst ht
  rw [Host.dynamicSlice_eq_extractStridedSlice S4x1 z _ ![0, k] _ ⟨rfl, fun a => by
    fin_cases a
    · show 0 + 4 ≤ 4
      omega
    · show k + 1 ≤ 1024
      omega⟩ (fun a => by
    fin_cases a
    · rfl
    · exact toInt_wrap_ofNat k (by omega))]
  funext q
  idx_vars q
  pointwise

theorem i_eq (f0 : ∀ i : Fin 1024, (V (Proc.devRef .tc main_v103_0) : S1024.Idx → BitVec 32) (ix1 i) = BitVec.ofNat 32 i.val)
    (hk : k < 1024) (hc : (V (Proc.devRef .tc main_v103_8) : S_.Idx → BitVec 32) = fun _ => BitVec.ofNat 32 k) :
    (res_main_while0b_v133 V : S_.Idx → BitVec 32) = fun _ => BitVec.ofNat 32 k := by
  funext q
  unfold res_main_while0b_v133
  show Host.dynamicSlice S1 _ _ _ _ = _
  exact (ctr_read _ _ hk hc _).trans (f0 _)

theorem axis (z w : S4x1024.Idx → EReal) (t : S_.Idx → BitVec 32) (hk : k < 1024) (ht : t = fun _ => BitVec.ofNat 32 k) (b : Fin 4) (j : Fin 1024) :
    maximumf (F := Ideal) (φ := .f32) (subf (minimumf (broadcastInDim S4x1024 ![0, 1] bcast_S4x1_S4x1024_0_1 (Host.dynamicSlice S4x1 z (fun a => (((![constantI S_ 32 0#32, select (cmpi .slt t (constantI S_ 32 0#32)) (addi t (constantI S_ 32 1024#32)) t] : Fin 2 → S_.Idx → BitVec 32)) a (Shape.Idx.first h_S_)).toInt) sliceFits_S4x1024_S4x1)) z)
        (maximumf (broadcastInDim S4x1024 ![0, 1] bcast_S4x1_S4x1024_0_1 (Host.dynamicSlice S4x1 w (fun a => (((![constantI S_ 32 0#32, select (cmpi .slt t (constantI S_ 32 0#32)) (addi t (constantI S_ 32 1024#32)) t] : Fin 2 → S_.Idx → BitVec 32)) a (Shape.Idx.first h_S_)).toInt) sliceFits_S4x1024_S4x1)) w))
      (broadcastInDim S4x1024 ![] bcast_S_S4x1024 (constant (F := Ideal) S_ .f32 0x00000000#32)) (ix2 b j)
    = (max (min (z (ix2 b ⟨k, hk⟩)) (z (ix2 b j)) - max (w (ix2 b ⟨k, hk⟩)) (w (ix2 b j))) 0 : EReal) := by
  rw [col_read z t hk ht, col_read w t hk ht]
  pointwise

/-- The trip's candidate, if it is kept: not suppressed and valid. -/
theorem cur_eq (h : Fixed V x) (hk : k < 1024) (hc : (V (Proc.devRef .tc main_v103_8) : S_.Idx → BitVec 32) = fun _ => BitVec.ofNat 32 k)
    (b : Fin 4) (z : Fin 1) : (res_main_while0b_v143 V : S4x1.Idx → BitVec 1) (ix2 b z)
      = IntOp.andi (~~~((V (Proc.devRef .tc main_v103_9) : S4x1024.Idx → BitVec 1) (ix2 b ⟨k, hk⟩))) (BitVec.ofBool (@decide (Nms.valid x b ⟨k, hk⟩) (Classical.dec _))) := by
  have hi := i_eq h.f0 hk hc
  unfold res_main_while0b_v143
  refine Eq.trans (congrArg₂ (fun p q => IntOp.andi (~~~p) q) (congrFun (col_read _ _ hk hi) _) (congrFun (col_read _ _ hk hi) _)) ?_
  exact congrArg _ (h.f1 b ⟨k, hk⟩)

/-- The overlaps with the trip's candidate. -/
theorem inter_eq (h : Fixed V x) (hk : k < 1024) (hc : (V (Proc.devRef .tc main_v103_8) : S_.Idx → BitVec 32) = fun _ => BitVec.ofNat 32 k)
    (b : Fin 4) (j : Fin 1024) : (res_main_while0b_v174 V : S4x1024.Idx → EReal) (ix2 b j)
      = ((Boxes.sep ((TopK.pos x b ⟨k, hk⟩).val % 512) ((TopK.pos x b j).val % 512) : ℝ) : EReal)
        * ((Boxes.sep ((TopK.pos x b ⟨k, hk⟩).val / 512) ((TopK.pos x b j).val / 512) : ℝ) : EReal) := by
  have hi := i_eq h.f0 hk hc
  have a1 := axis (V (Proc.devRef .tc main_v103_4) : S4x1024.Idx → EReal) (V (Proc.devRef .tc main_v103_2) : S4x1024.Idx → EReal) _ hk hi b j
  have a2 := axis (V (Proc.devRef .tc main_v103_5) : S4x1024.Idx → EReal) (V (Proc.devRef .tc main_v103_3) : S4x1024.Idx → EReal) _ hk hi b j
  rw [h.f4, h.f4, h.f2, h.f2, Boxes.side_minmax] at a1
  rw [h.f5, h.f5, h.f3, h.f3, Boxes.side_minmax] at a2
  unfold res_main_while0b_v174
  exact congrArg₂ (· * ·) a1 a2

theorem ratio (w a : S4x1024.Idx → EReal) (t : S_.Idx → BitVec 32) (hk : k < 1024) (ht : t = fun _ => BitVec.ofNat 32 k) (b : Fin 4) (j : Fin 1024)
    (p c : EReal) (hw : w (ix2 b j) = p) (ha : ∀ i, a (ix2 b i) = c) (q : Prop) [Decidable q]
    (hq : Ideal.ofBits .f32 0x3DCCCCCD#32 < Ideal.div p (c + c - p + Ideal.ofBits .f32 0x3089705F#32) ↔ q) :
    cmpf (F := Ideal) (φ := .f32) .ogt (Host.divf w (addf (subf (addf (broadcastInDim S4x1024 ![0, 1] bcast_S4x1_S4x1024_0_1 (Host.dynamicSlice S4x1 a (fun a => (((![constantI S_ 32 0#32, select (cmpi .slt t (constantI S_ 32 0#32)) (addi t (constantI S_ 32 1024#32)) t] : Fin 2 → S_.Idx → BitVec 32)) a (Shape.Idx.first h_S_)).toInt) sliceFits_S4x1024_S4x1)) a) w)
        (broadcastInDim S4x1024 ![] bcast_S_S4x1024 (constant (F := Ideal) S_ .f32 0x3089705F#32))))
      (broadcastInDim S4x1024 ![] bcast_S_S4x1024 (constant (F := Ideal) S_ .f32 0x3DCCCCCD#32)) (ix2 b j)
    = BitVec.ofBool (decide q) := by
  rw [col_read a t hk ht]
  pointwise
  rw [hw, ha, ha]
  exact congrArg BitVec.ofBool ((@decide_eq_decide _ _ (_) (_)).2 hq)

theorem later (z : S1024.Idx → BitVec 32) (t : S_.Idx → BitVec 32) (ht : t = fun _ => BitVec.ofNat 32 k) (b : Fin 4) (j : Fin 1024) :
    broadcastInDim S4x1024 ![0, 1] bcast_S1x1024_S4x1024_0_1 (broadcastInDim S1x1024 ![1] bcast_S1024_S1x1024_1 (cmpi .sgt z (broadcastInDim S1024 ![] bcast_S_S1024 t))) (ix2 b j)
      = IntOp.cmpi .sgt (z (ix1 j)) (BitVec.ofNat 32 k) := by
  subst ht
  pointwise

theorem keep_new (z : S1024x4.Idx → BitVec 1) (u : S1x4.Idx → BitVec 1) (t : S_.Idx → BitVec 32) (hk : k < 1024) (ht : t = fun _ => BitVec.ofNat 32 k)
    (i : Fin 1024) (b : Fin 4) :
    Host.dynamicUpdateSlice z u (fun a => (((![t, constantI S_ 32 0#32] : Fin 2 → S_.Idx → BitVec 32)) a (Shape.Idx.first h_S_)).toInt) updateFits_S1024x4_S1x4 (ix2 i b)
      = if i.val = k then u (ix2 0 b) else z (ix2 i b) := by
  subst ht
  rw [Host.dynamicUpdateSlice_eq_updateSlice z u _ _ ![k, 0] (fun a => by
    fin_cases a
    · show (min (max ((BitVec.ofNat 32 k).toInt) 0) (((1024 - 1 : ℕ)) : Int)).toNat = k
      rw [Boxes.toInt_word (by omega)]
      omega
    · rfl) ⟨rfl, fun a => by
    fin_cases a
    · show k + 1 ≤ 1024
      omega
    · show 0 + 4 ≤ 4
      omega⟩]
  pointwise
  by_cases h : i.val = k
  · rw [if_pos h, dif_pos (by omega)]
    exact congrArg (fun a => u (ix2 a b)) (Fin.ext (show i.val - k = 0 by omega))
  · rw [if_neg h, dif_neg (by omega)]

open Classical in
/-- What the loop's buffers hold after `k` trips. -/
structure Trip (V : Valuation τ sig (Elt Ideal)) (x : Nms.Rows) (k : ℕ) : Prop extends Fixed V x where
  ctr : (V (Proc.devRef .tc main_v103_8) : S_.Idx → BitVec 32) = fun _ => BitVec.ofNat 32 k
  sup : ∀ b j, (V (Proc.devRef .tc main_v103_9) : S4x1024.Idx → BitVec 1) (ix2 b j) = BitVec.ofBool (decide (Greedy.sup (Nms.valid x b) (Nms.over x b) k j))
  keep : ∀ (i : Fin 1024) b, i.val < k → (V (Proc.devRef .tc main_v103_10) : S1024x4.Idx → BitVec 1) (ix2 i b) = BitVec.ofBool (decide (Nms.kept x b i))

theorem Fixed.congr {W : Valuation τ sig (Elt Ideal)} (h : Fixed V x)
    (g0 : W (Proc.devRef .tc main_v103_0) = V (Proc.devRef .tc main_v103_0)) (g1 : W (Proc.devRef .tc main_v103_1) = V (Proc.devRef .tc main_v103_1))
    (g2 : W (Proc.devRef .tc main_v103_2) = V (Proc.devRef .tc main_v103_2)) (g3 : W (Proc.devRef .tc main_v103_3) = V (Proc.devRef .tc main_v103_3))
    (g4 : W (Proc.devRef .tc main_v103_4) = V (Proc.devRef .tc main_v103_4)) (g5 : W (Proc.devRef .tc main_v103_5) = V (Proc.devRef .tc main_v103_5))
    (g6 : W (Proc.devRef .tc main_v103_6) = V (Proc.devRef .tc main_v103_6)) (g7 : W (Proc.devRef .tc main_v103_7) = V (Proc.devRef .tc main_v103_7)) : Fixed W x where
  f0 i := (congrFun g0 _).trans (h.f0 i)
  f1 b i := (congrFun g1 _).trans (h.f1 b i)
  f2 b i := (congrFun g2 _).trans (h.f2 b i)
  f3 b i := (congrFun g3 _).trans (h.f3 b i)
  f4 b i := (congrFun g4 _).trans (h.f4 b i)
  f5 b i := (congrFun g5 _).trans (h.f5 b i)
  f6 b i := (congrFun g6 _).trans (h.f6 b i)
  f7 i := (congrFun g7 _).trans (h.f7 i)

theorem Trip.congr {W : Valuation τ sig (Elt Ideal)} (h : Trip V x k) (hf : Fixed W x) (g8 : W (Proc.devRef .tc main_v103_8) = V (Proc.devRef .tc main_v103_8))
    (g9 : W (Proc.devRef .tc main_v103_9) = V (Proc.devRef .tc main_v103_9)) (g10 : W (Proc.devRef .tc main_v103_10) = V (Proc.devRef .tc main_v103_10)) : Trip W x k where
  toFixed := hf
  ctr := g8.trans h.ctr
  sup b j := (congrFun g9 _).trans (h.sup b j)
  keep i b hi := (congrFun g10 _).trans (h.keep i b hi)

theorem not_word (p : Prop) [Decidable p] : ~~~(BitVec.ofBool (decide p)) = BitVec.ofBool (decide (¬ p)) := by
  by_cases h : p
  · rw [decide_eq_true h, decide_eq_false (not_not.2 h)]; rfl
  · rw [decide_eq_false h, decide_eq_true h]; rfl
theorem and_word (p q : Prop) [Decidable p] [Decidable q] : IntOp.andi (BitVec.ofBool (decide p)) (BitVec.ofBool (decide q)) = BitVec.ofBool (decide (p ∧ q)) := by
  rw [Boxes.andi_ofBool]; congr 1; simp
theorem or_word (p q : Prop) [Decidable p] [Decidable q] : IntOp.ori (BitVec.ofBool (decide p)) (BitVec.ofBool (decide q)) = BitVec.ofBool (decide (p ∨ q)) := by
  rw [Boxes.ori_ofBool]; congr 1; simp
theorem word_congr {p q : Prop} [Decidable p] [Decidable q] (h : p ↔ q) : BitVec.ofBool (decide p) = BitVec.ofBool (decide q) :=
  congrArg BitVec.ofBool (decide_eq_decide.2 h)

open Classical in
theorem Trip.cur (h : Trip V x k) (hk : k < 1024) (b : Fin 4) (z : Fin 1) :
    (res_main_while0b_v143 V : S4x1.Idx → BitVec 1) (ix2 b z) = BitVec.ofBool (decide (Nms.kept x b ⟨k, hk⟩)) := by
  rw [cur_eq h.toFixed hk h.ctr, h.sup, not_word, and_word]
  exact word_congr (Greedy.kept_iff_sup (Nms.valid x b) (Nms.over x b) ⟨k, hk⟩ (Nms.over_lt x b)).symm

theorem Trip.fixed (h : Fixed V x) : Fixed (StableHlo.afterL bodyI V) x :=
  h.congr (trip_main_v103_0 V) (trip_main_v103_1 V) (trip_main_v103_2 V) (trip_main_v103_3 V) (trip_main_v103_4 V) (trip_main_v103_5 V) (trip_main_v103_6 V) (trip_main_v103_7 V)

open Classical in
theorem Trip.next_sup (h : Trip V x k) (hk : k < 1024) (b : Fin 4) (j : Fin 1024) :
    (StableHlo.afterL bodyI V (Proc.devRef .tc main_v103_9) : S4x1024.Idx → BitVec 1) (ix2 b j)
      = BitVec.ofBool (decide (Greedy.sup (Nms.valid x b) (Nms.over x b) (k + 1) j)) := by
  have hi := i_eq h.f0 hk h.ctr
  have r1' := ratio (res_main_while0b_v174 V : S4x1024.Idx → EReal) (V (Proc.devRef .tc main_v103_6) : S4x1024.Idx → EReal) _ hk hi b j _ _
    (inter_eq h.toFixed hk h.ctr b j) (h.f6 b) _ (Boxes.ov_boxes _ _ _ _)
  have r2 := later (V (Proc.devRef .tc main_v103_7) : S1024.Idx → BitVec 32) _ hi b j
  rw [h.f7, Boxes.sgt_word (by omega) (by omega)] at r2
  have r0 : (broadcastInDim S4x1024 ![0, 1] bcast_S4x1_S4x1024_0_1 (res_main_while0b_v143 V : S4x1.Idx → BitVec 1)) (ix2 b j)
      = BitVec.ofBool (decide (Nms.kept x b ⟨k, hk⟩)) := by
    refine Eq.trans ?_ (h.cur hk b 0)
    pointwise
  refine (congrFun (trip_main_v103_9 V) _).trans ?_
  refine Eq.trans (congrArg₂ IntOp.ori (h.sup b j) (congrArg₂ IntOp.andi r0 (congrArg₂ IntOp.andi r1' r2))) ?_
  rw [and_word, and_word, or_word]
  refine word_congr ?_
  exact (Greedy.sup_succ _ _ ⟨k, hk⟩ _).symm

theorem Trip.next (h : Trip V x k) (hk : k < 1024) : Trip (StableHlo.afterL bodyI V) x (k + 1) where
  toFixed := Trip.fixed h.toFixed
  ctr := by
    refine (trip_main_v103_8 V).trans ?_
    funext q
    refine Eq.trans (congrArg (fun w => IntOp.addi w 1#32) (congrFun h.ctr q)) ?_
    exact (BitVec.ofNat_add k 1).symm
  sup b j := h.next_sup hk b j
  keep i b hik := by
    refine (congrFun (trip_main_v103_10 V) _).trans ?_
    refine (keep_new _ _ _ hk h.ctr i b).trans ?_
    by_cases e : i.val = k
    · rw [if_pos e]
      obtain rfl : i = ⟨k, hk⟩ := Fin.ext e
      refine Eq.trans ?_ (h.cur hk b 0)
      pointwise
    · rw [if_neg e]
      exact h.keep i b (by omega)

end Cert.ReferenceIdeal.Run

end

end
-- ==== Proof.RefTail.lean ====
module

public import proofs.«01_k».proof.Proof.RefLoop
public import Idealize.ShloMosaic.Lib.StableHlo.ReadAt

@[expose] public section

set_option maxRecDepth 16384

noncomputable section

namespace Cert.ReferenceIdeal.Run

open Idealize.ShloMosaic Idealize.ShloMosaic.TcCoe Idealize.SL Idealize.SL.Sem Idealize.ShloMosaic.Pointwise
open Cert.ReferenceIdeal Cert.ReferenceIdeal.Gen

open Cert.ReferenceIdeal.Value

variable {V : Valuation τ sig (Elt Ideal)} {x : Nms.Rows} {k : ℕ}

/-! ## One trip -/

theorem stay_cond {V : Valuation τ sig (Elt Ideal)} {r : Ref sig .tc} (h : r ∉ condOps_W) : StableHlo.after condOps V (Proc.devRef .tc r) = V (Proc.devRef .tc r) :=
  StableHlo.after_of_writes_sub condOps V condOps_writes h

theorem stay_body {V : Valuation τ sig (Elt Ideal)} {r : Ref sig .tc} (h0 : r ∉ while0Ops0_W) (h1 : r ∉ while0Ops0_1_W) (h2 : r ∉ while0Ops0_2_W) (h3 : r ∉ while0Ops0_3_W) :
    StableHlo.afterL bodyI V (Proc.devRef .tc r) = V (Proc.devRef .tc r) :=
  (StableHlo.after_of_writes_sub while0Ops0_3 _ while0Ops0_3_writes h3).trans ((StableHlo.after_of_writes_sub while0Ops0_2 _ while0Ops0_2_writes h2).trans
    ((StableHlo.after_of_writes_sub while0Ops0_1 _ while0Ops0_1_writes h1).trans (StableHlo.after_of_writes_sub while0Ops0 _ while0Ops0_writes h0)))

section Rounds

variable (m : (ℓ : Loc nD τ sig) → Buf (Elt Ideal) ℓ) (c : Dev nD)

theorem enter : StableHlo.entryContents preI m c = stD (StableHlo.launchContents m c) := rfl

theorem trip_cond {V : Valuation τ sig (Elt Ideal)} {x : Nms.Rows} {k : ℕ} (h : Trip V x k) : Trip (StableHlo.after condOps V) x k :=
  h.congr (h.toFixed.congr (stay_cond (by decide)) (stay_cond (by decide)) (stay_cond (by decide)) (stay_cond (by decide)) (stay_cond (by decide))
    (stay_cond (by decide)) (stay_cond (by decide)) (stay_cond (by decide))) (stay_cond (by decide)) (stay_cond (by decide)) (stay_cond (by decide))

theorem trips : ∀ k, k ≤ 1024 → Trip (atK m k c) (hf (StableHlo.launchContents m c)) k
  | 0, _ => by
    refine ⟨fixedD _, ?_, fun b j => ?_, fun i b hi => absurd hi (Nat.not_lt_zero _)⟩
    · refine (atK_ctr m c 0).trans ?_
      rw [Scf.iv_zero]
    · refine (e9 _ b j).trans ?_
      exact (congrArg BitVec.ofBool (@decide_eq_false _ (_) (Greedy.sup_zero _ _ j))).symm
  | k + 1, hk => (trip_cond (trips k (by omega))).next (by omega)

theorem atK_stay {r : Ref sig .tc} (hc : r ∉ condOps_W) (h0 : r ∉ while0Ops0_W) (h1 : r ∉ while0Ops0_1_W) (h2 : r ∉ while0Ops0_2_W) (h3 : r ∉ while0Ops0_3_W) :
    ∀ k, atK m k c (Proc.devRef .tc r) = stD (StableHlo.launchContents m c) (Proc.devRef .tc r)
  | 0 => rfl
  | k + 1 => (stay_body h0 h1 h2 h3).trans ((stay_cond hc).trans (atK_stay hc h0 h1 h2 h3 k))

end Rounds

variable {V : Valuation τ sig (Elt Ideal)} {x : Nms.Rows}

open Classical in
theorem kept_at (h : Trip V x 1024) (b : Fin 4) (i : Fin 1024) :
    (StableHlo.after hostOps0_9 V (Proc.devRef .tc main_v104) : S4x1024.Idx → BitVec 1) (ix2 b i) = BitVec.ofBool (decide (Nms.kept x b i)) := by
  simp only [hostOps0_9]
  after_reads_at
  pointwise
  exact h.keep i b i.isLt

open Classical in
theorem count_at (h : Trip V x 1024) (b : Fin 4) (i : Fin 1024) :
    (StableHlo.after hostOps0_9 V (Proc.devRef .tc main_v105) : S4x1024.Idx → BitVec 32) (ix2 b i) = BitVec.ofNat 32 (if Nms.kept x b i then 1 else 0) := by
  simp only [hostOps0_9]
  after_reads_at
  pointwise
  rw [h.keep i b i.isLt]
  by_cases e : Nms.kept x b i
  · rw [decide_eq_true e, if_pos e]
    rfl
  · rw [decide_eq_false e, if_neg e]
    rfl

attribute [local irreducible] Host.reduceWindow

theorem windows_row : (Routing.shape2 1 1024).ReduceWindows (![1, 1024] : Fin 2 → ℕ) ![1, 1] ![0, 1023] ![0, 0] (Routing.shape2 1 1024) := by
  decide

open Classical in
/-- The rank test, at a candidate that is kept. -/
theorem sums_at (h : Trip V x 1024) (b : Fin 4) (i : Fin 1024) (hi : Nms.kept x b i) :
    (StableHlo.after hostOps0_10 (StableHlo.after hostOps0_9 V) (Proc.devRef .tc main_v106) : S4x1024.Idx → BitVec 32) (ix2 b i)
      = BitVec.ofNat 32 (Nms.rank x b i + 1) := by
  have hc := count_at h b
  generalize StableHlo.after hostOps0_9 V = W at hc ⊢
  have e : (StableHlo.after hostOps0_10 W (Proc.devRef .tc main_v106) : S4x1024.Idx → BitVec 32)
      = Host.reduceWindow IntOp.addi ![1, 1024] ![1, 1] ![0, 1023] ![0, 0] (W (Proc.devRef .tc main_v105) : S4x1024.Idx → BitVec 32)
          (broadcastInDim S_ ![] bcast_S_S_ (constantI S_ 32 0#32)) reduceWindows_S4x1024_S4x1024_w1s1p0_0_w1024s1p1023_0 h_S_ := by
    simp only [hostOps0_10]
    after_reads_simp
    rfl
  rw [e, ← Tail.rank_prefix x b i hi (fun n => if hn : n < 1024 then (if Nms.kept x b ⟨n, hn⟩ then 1 else 0) else 0) (fun j => dif_pos j.isLt)]
  refine Tail.row_cumsum (R := 4) (N := 1024) (Nm1 := 1023) rfl _ _ b (fun j => (hc j).trans ?_) _ rfl _ windows_row _ i
  rw [dif_pos j.isLt]

theorem taken_at (V : Valuation τ sig (Elt Ideal)) (b : Fin 4) (i : Fin 1024) :
    (StableHlo.after hostOps0_11 V (Proc.devRef .tc main_v109) : S4x1024.Idx → BitVec 1) (ix2 b i)
      = IntOp.andi ((V (Proc.devRef .tc main_v104) : S4x1024.Idx → BitVec 1) (ix2 b i)) (IntOp.cmpi .sle ((V (Proc.devRef .tc main_v106) : S4x1024.Idx → BitVec 32) (ix2 b i)) 300#32) := by
  simp only [hostOps0_11]
  after_reads_at
  all_goals pointwise

theorem zeros_at (V : Valuation τ sig (Elt Ideal)) (i : S4x262144.Idx) : (StableHlo.after hostOps0_11 V (Proc.devRef .tc main_v110) : S4x262144.Idx → EReal) i = (0 : EReal) := by
  simp only [hostOps0_11]
  after_reads_at
  all_goals pointwise

theorem batch_at (V : Valuation τ sig (Elt Ideal)) (b : Fin 4) (z : Fin 1) : (StableHlo.after hostOps0_11 V (Proc.devRef .tc main_v112) : S4x1.Idx → BitVec 32) (ix2 b z) = BitVec.ofNat 32 b.val := by
  simp only [hostOps0_11]
  after_reads_at
  all_goals pointwise

theorem nil_at (V : Valuation τ sig (Elt Ideal)) (i : S_.Idx) : (StableHlo.after hostOps0_11 V (Proc.devRef .tc main_cst_15) : S_.Idx → EReal) i = (0 : EReal) := by
  simp only [hostOps0_11]
  after_reads_at
  all_goals pointwise

theorem score_read (V : Valuation τ sig (Elt Ideal)) (b : Fin 4) (i : Fin 1024) : (StableHlo.after hostOps0_12 V (Proc.devRef .tc main_v113) : S4x1024.Idx → EReal) (ix2 b i)
    = (Scalar.select ((V (Proc.devRef .tc main_v109) : S4x1024.Idx → BitVec 1) (ix2 b i)) ((V (Proc.devRef .tc main_values) : S4x1024.Idx → EReal) (ix2 b i))
      ((V (Proc.devRef .tc main_cst_15) : S_.Idx → EReal) ix0) : EReal) := by
  simp only [hostOps0_12]
  after_reads_at
  rfl

theorem place0 (V : Valuation τ sig (Elt Ideal)) (b : Fin 4) (i : Fin 1024) (h : (V (Proc.devRef .tc main_v112) : S4x1.Idx → BitVec 32) (ix2 b 0) = BitVec.ofNat 32 b.val) :
    ((StableHlo.after hostOps0_13 V (Proc.devRef .tc main_v127) : S4x1024x2.Idx → BitVec 32) (ix3 b i 0)).toInt = (b.val : Int) := by
  have hb := b.isLt
  refine (congrArg BitVec.toInt (?_ : _ = BitVec.ofNat 32 b.val)).trans (Boxes.toInt_word (by omega))
  simp only [hostOps0_13]
  after_reads_at
  pointwise
  rw [h]
  exact Routing.wrap_of_lt _ _ (by rw [BitVec.toNat_ofNat]; omega)

theorem place1 (V : Valuation τ sig (Elt Ideal)) (b : Fin 4) (i : Fin 1024) (n : Fin 262144)
    (h : (V (Proc.devRef .tc main_indices) : S4x1024.Idx → BitVec 32) (ix2 b i) = BitVec.ofNat 32 n.val) :
    ((StableHlo.after hostOps0_13 V (Proc.devRef .tc main_v127) : S4x1024x2.Idx → BitVec 32) (ix3 b i 1)).toInt = (n.val : Int) := by
  have hb := n.isLt
  refine (congrArg BitVec.toInt (?_ : _ = BitVec.ofNat 32 n.val)).trans (Boxes.toInt_word (by omega))
  simp only [hostOps0_13]
  after_reads_at
  pointwise
  rw [h]
  exact Routing.wrap_of_lt _ _ (by rw [BitVec.toNat_ofNat]; omega)

theorem sle_word {a b : ℕ} (ha : a < 2 ^ 31) (hb : b < 2 ^ 31) : IntOp.cmpi .sle (BitVec.ofNat 32 a) (BitVec.ofNat 32 b) = BitVec.ofBool (decide (a ≤ b)) := by
  show BitVec.ofBool (decide ((BitVec.ofNat 32 a).toInt ≤ (BitVec.ofNat 32 b).toInt)) = _
  rw [Boxes.toInt_word ha, Boxes.toInt_word hb]
  congr 1
  simp

theorem rank_le (b : Fin 4) (i : Fin 1024) : Nms.rank x b i ≤ 1024 := by
  classical
  refine (Finset.card_le_univ _).trans ?_
  simp

/-- The rows as they stand when the scatter begins. -/
abbrev stT (V : Valuation τ sig (Elt Ideal)) :=
  StableHlo.after hostOps0_12 (StableHlo.after hostOps0_11 (StableHlo.after hostOps0_10 (StableHlo.after hostOps0_9 V)))

theorem stT_stay (V : Valuation τ sig (Elt Ideal)) {r : Ref sig .tc} (h9 : r ∉ W_hostOps0_9) (h10 : r ∉ W_hostOps0_10) (h11 : r ∉ W_hostOps0_11) (h12 : r ∉ W_hostOps0_12) :
    stT V (Proc.devRef .tc r) = V (Proc.devRef .tc r) :=
  (stay_hostOps0_12 _ h12).trans ((stay_hostOps0_11 _ h11).trans ((stay_hostOps0_10 _ h10).trans (stay_hostOps0_9 _ h9)))

theorem score_at (h : Trip V x 1024) (hc : Cands V x) (b : Fin 4) (i : Fin 1024) : (stT V (Proc.devRef .tc main_v113) : S4x1024.Idx → EReal) (ix2 b i) = Nms.score x b i := by
  classical
  refine (score_read _ b i).trans ?_
  rw [nil_at, taken_at]
  have e1 := (congrFun (stay_hostOps0_10 (StableHlo.after hostOps0_9 V) (r := main_v104) (by decide)) (ix2 b i)).trans (kept_at h b i)
  have e2 : (StableHlo.after hostOps0_11 (StableHlo.after hostOps0_10 (StableHlo.after hostOps0_9 V)) (Proc.devRef .tc main_values) : S4x1024.Idx → EReal) (ix2 b i) = TopK.val x b i :=
    (congrFun ((stay_hostOps0_11 _ (by decide)).trans ((stay_hostOps0_10 _ (by decide)).trans (stay_hostOps0_9 _ (by decide)))) _).trans (hc.value b i)
  rw [e1, e2]
  unfold Nms.score
  by_cases hk : Nms.kept x b i
  · have hr := rank_le (x := x) b i
    rw [sums_at h b i hk, show (300#32 : BitVec 32) = BitVec.ofNat 32 300 from rfl, sle_word (by omega) (by omega), and_word]
    by_cases hr3 : Nms.rank x b i < 300
    · rw [decide_eq_true ⟨hk, by omega⟩, if_pos ⟨hk, hr3⟩]
      rfl
    · rw [decide_eq_false (fun e => hr3 (by omega)), if_neg (fun e => hr3 e.2)]
      rfl
  · rw [decide_eq_false hk, if_neg (fun e => hk e.1)]
    show Scalar.select (0#1 &&& _) _ _ = _
    rw [BitVec.zero_and]
    rfl

theorem nms_at (h : Trip V x 1024) (hc : Cands V x) (b : Fin 4) (y z : Fin 512) (p : Fin 262144) (hp : p.val = y.val * 512 + z.val) :
    (StableHlo.after hostOps0_13 (stT V) (Proc.devRef .tc main_v129) : S4x512x512.Idx → EReal) (ix3 b y z) = Nms.nms x b p := by
  classical
  have hs := score_at h hc
  have hz : ∀ i : S4x262144.Idx, (stT V (Proc.devRef .tc main_v110) : S4x262144.Idx → EReal) i = (0 : EReal) :=
    fun i => (congrFun (stay_hostOps0_12 _ (r := main_v110) (by decide)) i).trans (zeros_at _ i)
  have hb : ∀ b : Fin 4, (stT V (Proc.devRef .tc main_v112) : S4x1.Idx → BitVec 32) (ix2 b 0) = BitVec.ofNat 32 b.val :=
    fun b => (congrFun (stay_hostOps0_12 _ (r := main_v112) (by decide)) _).trans (batch_at _ b 0)
  have hi : ∀ (b : Fin 4) (i : Fin 1024), (stT V (Proc.devRef .tc main_indices) : S4x1024.Idx → BitVec 32) (ix2 b i) = BitVec.ofNat 32 (TopK.pos x b i).val :=
    fun b i => (congrFun (stT_stay V (by decide) (by decide) (by decide) (by decide)) _).trans (hc.index b i)
  generalize stT V = W at hs hz hb hi ⊢
  have p0 := fun b i => place0 W b i (hb b)
  have p1 := fun b i => place1 W b i (TopK.pos x b i) (hi b i)
  have e : (StableHlo.after hostOps0_13 W (Proc.devRef .tc main_v129) : S4x512x512.Idx → EReal) (ix3 b y z)
      = Host.scatterAdd (F := Ideal) (φ := .f32) scatter_S4x262144_S4x1024x2_S4x1024_n_01_01_2 (W (Proc.devRef .tc main_v110) : S4x262144.Idx → EReal)
          (StableHlo.after hostOps0_13 W (Proc.devRef .tc main_v127) : S4x1024x2.Idx → BitVec 32) (W (Proc.devRef .tc main_v113) : S4x1024.Idx → EReal) (ix2 b p) := by
    have hlt : y.val * 512 + z.val < 262144 := by have := y.isLt; have := z.isLt; omega
    obtain rfl : (⟨y.val * 512 + z.val, hlt⟩ : Fin 262144) = p := Fin.ext hp.symm
    simp only [hostOps0_13]
    after_reads_at
  rw [e]
  unfold Nms.nms
  refine (Tail.scatter_rows (R := 4) (N := 1024) (P := 262144) _ rfl rfl rfl _ _ _ (TopK.pos x) (Nms.score x) hz p0 p1 hs b p).trans ?_
  congr!

theorem mask_at (h : Trip V x 1024) (hc : Cands V x) (b : Fin 4) (y z : Fin 512) (p : Fin 262144) (hp : p.val = y.val * 512 + z.val) :
    (StableHlo.after hostOps0_13 (stT V) (Proc.devRef .tc main_v132) : S4x512x512.Idx → BitVec 32) (ix3 b y z)
      = (BitVec.setWidth 32 (BitVec.ofBool (@decide (Ideal.ofBits .f32 0x3C75C28F#32 ≤ Nms.nms x b p) (Classical.dec _))) : BitVec 32) := by
  classical
  rw [← nms_at h hc b y z p hp]
  generalize stT V = W
  simp only [hostOps0_13]
  after_reads_at

end Cert.ReferenceIdeal.Run

end

end
-- ==== Proof.RefFinal.lean ====
module

public import proofs.«01_k».proof.Proof.RefTail
public import Idealize.ShloMosaic.Lib.StableHlo.ReadAt

@[expose] public section

set_option maxRecDepth 16384

noncomputable section

namespace Cert.ReferenceIdeal.Run

open Idealize.ShloMosaic Idealize.ShloMosaic.TcCoe Idealize.SL Idealize.SL.Sem Idealize.ShloMosaic.Pointwise
open Cert.ReferenceIdeal Cert.ReferenceIdeal.Gen

open Cert.ReferenceIdeal.Value

variable (m : (ℓ : Loc nD τ sig) → Buf (Elt Ideal) ℓ) (c : Dev nD)

/-- The contents when the loop has stopped. -/
abbrev out := StableHlo.after condOps (atK m 1024 c)

abbrev fin := StableHlo.finalContents condOps preI bodyI postI 1024 m c

theorem fin_eq : fin m c = StableHlo.after hostOps0_13 (stT (out m c)) := rfl

theorem out_stay {r : Ref sig .tc} (h5 : r ∉ hostOps0_5_W) (h6 : r ∉ hostOps0_6_W) (h7 : r ∉ hostOps0_7_W) (h8 : r ∉ hostOps0_8_W)
    (hc : r ∉ condOps_W) (w0 : r ∉ while0Ops0_W) (w1 : r ∉ while0Ops0_1_W) (w2 : r ∉ while0Ops0_2_W) (w3 : r ∉ while0Ops0_3_W) :
    out m c (Proc.devRef .tc r) = stB (StableHlo.launchContents m c) (Proc.devRef .tc r) :=
  (stay_cond hc).trans ((atK_stay m c hc w0 w1 w2 w3 1024).trans ((stay_hostOps0_8 _ h8).trans (stC_stay _ h5 h6 h7)))

theorem fin_stay {r : Ref sig .tc} (h9 : r ∉ W_hostOps0_9) (h10 : r ∉ W_hostOps0_10) (h11 : r ∉ W_hostOps0_11) (h12 : r ∉ W_hostOps0_12) (h13 : r ∉ W_hostOps0_13) :
    fin m c (Proc.devRef .tc r) = out m c (Proc.devRef .tc r) :=
  (stay_hostOps0_13 _ h13).trans (stT_stay _ h9 h10 h11 h12)

theorem out_trip : Trip (out m c) (hf (StableHlo.launchContents m c)) 1024 := trip_cond (trips m c 1024 le_rfl)

theorem out_cands : Cands (out m c) (hf (StableHlo.launchContents m c)) :=
  (candsB _).congr (out_stay m c (by decide) (by decide) (by decide) (by decide) (by decide) (by decide) (by decide) (by decide) (by decide))
    (out_stay m c (by decide) (by decide) (by decide) (by decide) (by decide) (by decide) (by decide) (by decide) (by decide))

theorem fin_arg : ∀ r ∈ [main_arg0, main_arg1, main_arg2, main_arg3, main_arg4], fin m c (Proc.devRef .tc r) = m ((c.tc : Thread nD τ).loc r) := by
  intro r hr
  simp only [List.mem_cons, List.not_mem_nil, or_false] at hr
  rcases hr with rfl | rfl | rfl | rfl | rfl <;>
    exact (fin_stay m c (by decide) (by decide) (by decide) (by decide) (by decide)).trans
      ((out_stay m c (by decide) (by decide) (by decide) (by decide) (by decide) (by decide) (by decide) (by decide) (by decide)).trans
        ((stay_hostOps0_4 _ (by decide)).trans (stA_stay _ (by decide) (by decide) (by decide) (by decide))))

theorem hf_launch (b : Fin 4) (p : Fin 262144) (Y X : Fin 512) (hy : Y.val = p.val / 512) (hx : X.val = p.val % 512) : hf (StableHlo.launchContents m c) (ix2 b p)
    = Spec.heat (m ((c : Thread nD τ).loc main_arg0)) (m ((c : Thread nD τ).loc main_arg1)) (m ((c : Thread nD τ).loc main_arg2))
        (m ((c : Thread nD τ).loc main_arg3)) (m ((c : Thread nD τ).loc main_arg4)) b Y X :=
  hf_at _ b p Y X hy hx

/-- The whole run: the four results, the arguments and the counters. -/
theorem ends (g : Dev nD → PrngReg) : θ_run defs (onTc (τ := τ) (main (F := Ideal))) ⟨m, fun _ => 0, g⟩ (fun r => (∀ c : Dev nD,
      (∀ (b : Fin 4) (v : Fin 65) (y x : Fin 64), (r.2.mem ((c.tc : Thread nD τ).loc main_v65) : S4x65x64x64.Idx → EReal) (ix4 b v y x)
        = Spec.logits (m ((c : Thread nD τ).loc main_arg0)) (m ((c : Thread nD τ).loc main_arg1)) (m ((c : Thread nD τ).loc main_arg2))
          (m ((c : Thread nD τ).loc main_arg3)) (m ((c : Thread nD τ).loc main_arg4)) b y x v)
      ∧ (∀ (b : Fin 4) (y x : Fin 512), (r.2.mem ((c.tc : Thread nD τ).loc main_v80) : S4x512x512.Idx → EReal) (ix3 b y x)
        = Spec.heat (m ((c : Thread nD τ).loc main_arg0)) (m ((c : Thread nD τ).loc main_arg1)) (m ((c : Thread nD τ).loc main_arg2))
          (m ((c : Thread nD τ).loc main_arg3)) (m ((c : Thread nD τ).loc main_arg4)) b y x)
      ∧ (∀ (b : Fin 4) (y x : Fin 512) (p : Fin 262144), p.val = y.val * 512 + x.val →
        (r.2.mem ((c.tc : Thread nD τ).loc main_v129) : S4x512x512.Idx → EReal) (ix3 b y x) = Nms.nms (hf (StableHlo.launchContents m c)) b p)
      ∧ (∀ (b : Fin 4) (y x : Fin 512) (p : Fin 262144), p.val = y.val * 512 + x.val →
        (r.2.mem ((c.tc : Thread nD τ).loc main_v132) : S4x512x512.Idx → BitVec 32) (ix3 b y x)
          = (BitVec.setWidth 32 (BitVec.ofBool (@decide (Ideal.ofBits .f32 0x3C75C28F#32 ≤ Nms.nms (hf (StableHlo.launchContents m c)) b p) (Classical.dec _))) : BitVec 32))
      ∧ (∀ r' ∈ [main_arg0, main_arg1, main_arg2, main_arg3, main_arg4], r.2.mem ((c.tc : Thread nD τ).loc r') = m ((c.tc : Thread nD τ).loc r')))
      ∧ r.2.sem = fun _ => 0) := by
  refine (θ_run defs _ _).mono (fun r h => ⟨fun c => ?_, sem_eq_zero_of_no_sems (by decide) r.2⟩) (run_fold m g)
  have first : ∀ r' ∈ [main_v65, main_v80], r.2.mem ((c.tc : Thread nD τ).loc r') = stB (StableHlo.launchContents m c) (Proc.devRef .tc r') := by
    intro r' hr
    simp only [List.mem_cons, List.not_mem_nil, or_false] at hr
    rcases hr with rfl | rfl <;>
      exact (h c _ (by decide)).trans ((fin_stay m c (by decide) (by decide) (by decide) (by decide) (by decide)).trans
        (out_stay m c (by decide) (by decide) (by decide) (by decide) (by decide) (by decide) (by decide) (by decide) (by decide)))
  refine ⟨fun b v y x => ?_, fun b y x => ?_, fun b y x p hp => ?_, fun b y x p hp => ?_, fun r' hr => ?_⟩
  · exact (congrFun (first main_v65 (by decide)) _).trans (logits_at _ b v y x)
  · exact (congrFun (first main_v80 (by decide)) _).trans (heat_at _ b y x)
  · exact (congrFun (h c main_v129 (by decide)) _).trans (nms_at (out_trip m c) (out_cands m c) b y x p hp)
  · exact (congrFun (h c main_v132 (by decide)) _).trans (mask_at (out_trip m c) (out_cands m c) b y x p hp)
  · refine (h c r' ?_).trans (fin_arg m c r' hr)
    simp only [List.mem_cons, List.not_mem_nil, or_false] at hr
    rcases hr with rfl | rfl | rfl | rfl | rfl <;> decide

end Cert.ReferenceIdeal.Run

end

end
-- ==== Proof.lean ====
module

public import proofs.«01_k».proof.Defs
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadReferenceIdeal
public import Idealize.ShloMosaic.Adequacy
public import proofs.«01_k».proof.Proof.Gen.HeadReferenceIdeal.Run
public import proofs.«01_k».proof.Proof.Gen.HeadReferenceIdeal.Read
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.HeadRun
public import proofs.«01_k».proof.Proof.RefHead
public import proofs.«01_k».proof.Proof.KFinal
public import proofs.«01_k».proof.Proof.RefFinal
public import Idealize.ShloMosaic.Init

@[expose] public section

noncomputable section

namespace Cert.Proof

open Idealize.ShloMosaic Idealize.ShloMosaic.Pointwise Idealize.SL.Sem

/-- The reference ends with its counters at zero: it has none. -/
theorem head_reference : quiescent_HeadReferenceIdeal := fun m ρ _ =>
  (θ_run Cert.HeadReferenceIdeal.defs _ _).mono
    (fun r h => And.intro (fun c => (h c).2.2) (sem_eq_zero_of_no_sems (by decide) r.2))
    (Cert.HeadReferenceIdeal.Value.run m ρ)

/-- Kernel and reference return the same logits and the same heat map. -/
theorem head_algebraic : algebraic_HeadIdeal_HeadReferenceIdeal := by
  intro m g m' g' _ hagree
  refine ⟨_, _, Cert.HeadIdeal.Block.run m g, (θ_run Cert.HeadReferenceIdeal.defs _ _).mono (fun r h c => ?_)
    (Cert.HeadReferenceIdeal.Value.run m' g')⟩
  obtain ⟨a0, a1, a2, a3, a4⟩ := hagree c
  refine ⟨(h c).1.trans ?_, (h c).2.1.trans ?_, (h c).2.2⟩
  · rw [Cert.HeadReferenceIdeal.Read.val_main_v65_eq, a0, a1, a2, a3, a4]
    funext j
    obtain ⟨b, v, y, x, rfl⟩ : ∃ b v y x, j = ix4 b v y x := ⟨j 0, j 1, j 2, j 3, by funext a; fin_cases a <;> rfl⟩
    exact (Cert.HeadReferenceIdeal.Val.v65_apply _ _ _ _ _ b v y x).trans (Cert.HeadIdeal.Block.end10 m c b v y x).symm
  · rw [Cert.HeadReferenceIdeal.Read.val_main_v80_eq, a0, a1, a2, a3, a4]
    funext j
    obtain ⟨b, y, x, rfl⟩ : ∃ b y x, j = ix3 b y x := ⟨j 0, j 1, j 2, by funext a; fin_cases a <;> rfl⟩
    exact (Cert.HeadReferenceIdeal.Val.v80_apply _ _ _ _ _ b y x).trans (Cert.HeadIdeal.Block.end13 m c b y x).symm

/-- An argument is one of the list. -/
theorem five {α : Type} {P : α → Prop} {a b c d e : α} (h : ∀ r ∈ [a, b, c, d, e], P r) : P a ∧ P b ∧ P c ∧ P d ∧ P e :=
  ⟨h a (by simp), h b (by simp), h c (by simp), h d (by simp), h e (by simp)⟩

/-- The kernel ends with its arguments as they were and its counters at zero. -/
theorem kernel_frame : quiescent_KernelIdeal := fun m g _ =>
  (θ_run Cert.KernelIdeal.defs _ _).mono (fun _ h => ⟨fun c => five (h.1 c).2.2.2.2, h.2⟩) (Cert.KernelIdeal.Run.ends m g)

/-- So does the reference. -/
theorem reference_frame : quiescent_ReferenceIdeal := fun m g _ =>
  (θ_run Cert.ReferenceIdeal.defs _ _).mono (fun _ h => ⟨fun c => five (h.1 c).2.2.2.2, h.2⟩) (Cert.ReferenceIdeal.Run.ends m g)

/-- The rows both programs take their candidates from. -/
theorem same_rows (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Run.hf (StableHlo.launchContents m' c) = Cert.KernelIdeal.Run.rows m c := by
  obtain ⟨a0, a1, a2, a3, a4⟩ := hagree
  funext j
  obtain ⟨b, p, rfl⟩ : ∃ b p, j = ValueIdx.ix2 b p := ⟨j 0, j 1, by funext a; fin_cases a <;> rfl⟩
  have hp : p.val < 262144 := p.isLt
  refine (Cert.ReferenceIdeal.Run.hf_launch m' c b p ⟨p.val / 512, by omega⟩ ⟨p.val % 512, by omega⟩ rfl rfl).trans ?_
  refine Eq.trans ?_ (Cert.KernelIdeal.Run.rows_at m c b p ⟨p.val / 512, by omega⟩ ⟨p.val % 512, by omega⟩ rfl rfl).symm
  rw [a0, a1, a2, a3, a4]

/-- Kernel and reference return the same logits, heat map, suppressed heat map and mask. -/
theorem algebraic : algebraic_KernelIdeal_ReferenceIdeal := by
  intro m g m' g' _ hagree
  refine ⟨Cert.KernelIdeal.Run.logitsOf m, Cert.KernelIdeal.Run.heatOf m, Cert.KernelIdeal.Run.nmsOf m, Cert.KernelIdeal.Run.maskOf m,
    (θ_run Cert.KernelIdeal.defs _ _).mono (fun r h c => ?_) (Cert.KernelIdeal.Run.ends m g),
    (θ_run Cert.ReferenceIdeal.defs _ _).mono (fun r h c => ?_) (Cert.ReferenceIdeal.Run.ends m' g')⟩
  · obtain ⟨h0, h1, h2, h3, h4⟩ := h.1 c
    exact ⟨Cert.KernelIdeal.Run.ext4 h0, Cert.KernelIdeal.Run.ext3 h1,
      Cert.KernelIdeal.Run.ext3 fun b y x => h2 b y x (Cert.KernelIdeal.Run.place y x) rfl,
      Cert.KernelIdeal.Run.ext3 fun b y x => h3 b y x (Cert.KernelIdeal.Run.place y x) rfl, five h4⟩
  · obtain ⟨h0, h1, h2, h3, h4⟩ := h.1 c
    rw [same_rows m m' c (hagree c)] at h2 h3
    obtain ⟨a0, a1, a2, a3, a4⟩ := hagree c
    rw [a0, a1, a2, a3, a4] at h0 h1
    exact ⟨Cert.KernelIdeal.Run.ext4 h0, Cert.KernelIdeal.Run.ext3 h1,
      Cert.KernelIdeal.Run.ext3 fun b y x => h2 b y x (Cert.KernelIdeal.Run.place y x) rfl,
      Cert.KernelIdeal.Run.ext3 fun b y x => h3 b y x (Cert.KernelIdeal.Run.place y x) rfl, five h4⟩

theorem claim : Cert.Claim := ⟨Cert.Head.Gen.facts, Cert.HeadIdeal.Gen.facts, Cert.HeadReferenceIdeal.Gen.facts, Cert.KernelIdeal.Gen.facts, Cert.ReferenceIdeal.Gen.facts,
  fun m ρ _ => Cert.Head.Gen.frame m ρ, fun m ρ _ => Cert.HeadIdeal.Gen.frame m ρ, head_reference, kernel_frame, reference_frame, trivial, head_algebraic, algebraic⟩

end Cert.Proof

end
